-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_indices) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8x1024 : Shape := ⟨2, ![8, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S4x8192x1024 .f32) (main_arg1 : FVec F S8x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Kernel.lean ====
abbrev S4x8192x1024 : Shape := ⟨3, ![4, 8192, 1024]⟩
abbrev S8x1024 : Shape := ⟨2, ![8, 1024]⟩
abbrev S32768x1024 : Shape := ⟨2, ![32768, 1024]⟩
abbrev S8x32768 : Shape := ⟨2, ![8, 32768]⟩
abbrev S4096x1024 : Shape := ⟨2, ![4096, 1024]⟩
abbrev S8x4096 : Shape := ⟨2, ![8, 4096]⟩
abbrev S4096x8 : Shape := ⟨2, ![4096, 8]⟩
abbrev S4096 : Shape := ⟨1, ![4096]⟩
abbrev S4096x1 : Shape := ⟨2, ![4096, 1]⟩
abbrev S32768 : Shape := ⟨1, ![32768]⟩
abbrev S8192 : Shape := ⟨1, ![8192]⟩
abbrev S1024 : Shape := ⟨1, ![1024]⟩
abbrev S_ : Shape := ⟨0, ![]⟩
abbrev S1x1024 : Shape := ⟨2, ![1, 1024]⟩
abbrev S16 : Shape := ⟨1, ![16]⟩
abbrev S32768x1 : Shape := ⟨2, ![32768, 1]⟩
abbrev S32768x2 : Shape := ⟨2, ![32768, 2]⟩
abbrev S32768x8 : Shape := ⟨2, ![32768, 8]⟩

abbrev nBuf : Table → Nat
  | .hbm => 17
  | .local .tc .vmem => 7
  | .local .scVector .vmem => 5
  | _ => 0

abbrev bufTy : (tb : Table) → Fin (nBuf tb) → BufTy
  | .hbm, ⟨0, _⟩ => ⟨S4x8192x1024, .f32⟩
  | .hbm, ⟨1, _⟩ => ⟨S8x1024, .f32⟩
  | .hbm, ⟨2, _⟩ => ⟨S32768x1024, .f32⟩
  | .hbm, ⟨3, _⟩ => ⟨S8x32768, .f32⟩
  | .hbm, ⟨4, _⟩ => ⟨S8x32768, .f32⟩
  | .hbm, ⟨5, _⟩ => ⟨S32768, .f32⟩
  | .hbm, ⟨6, _⟩ => ⟨S32768, .f32⟩
  | .hbm, ⟨7, _⟩ => ⟨S32768, .i32⟩
  | .hbm, ⟨8, _⟩ => ⟨S32768, .i32⟩
  | .hbm, ⟨9, _⟩ => ⟨S32768x1, .f32⟩
  | .hbm, ⟨10, _⟩ => ⟨S32768x1, .f32⟩
  | .hbm, ⟨11, _⟩ => ⟨S32768x2, .f32⟩
  | .hbm, ⟨12, _⟩ => ⟨S32768x1, .i32⟩
  | .hbm, ⟨13, _⟩ => ⟨S32768x1, .i32⟩
  | .hbm, ⟨14, _⟩ => ⟨S32768x2, .i32⟩
  | .hbm, ⟨15, _⟩ => ⟨S32768x8, .f32⟩
  | .hbm, ⟨16, _⟩ => ⟨S32768x8, .f32⟩
  | .local .tc .vmem, ⟨0, _⟩ => ⟨S4096x1024, .f32⟩
  | .local .tc .vmem, ⟨1, _⟩ => ⟨S4096x1024, .f32⟩
  | .local .tc .vmem, ⟨2, _⟩ => ⟨S8x1024, .f32⟩
  | .local .tc .vmem, ⟨3, _⟩ => ⟨S8x4096, .f32⟩
  | .local .tc .vmem, ⟨4, _⟩ => ⟨S8x4096, .f32⟩
  | .local .tc .vmem, ⟨5, _⟩ => ⟨S8x4096, .f32⟩
  | .local .tc .vmem, ⟨6, _⟩ => ⟨S8x4096, .f32⟩
  | .local .scVector .vmem, ⟨0, _⟩ => ⟨S8192, .f32⟩
  | .local .scVector .vmem, ⟨1, _⟩ => ⟨S1024, .f32⟩
  | .local .scVector .vmem, ⟨2, _⟩ => ⟨S1024, .f32⟩
  | .local .scVector .vmem, ⟨3, _⟩ => ⟨S1024, .i32⟩
  | .local .scVector .vmem, ⟨4, _⟩ => ⟨S1024, .i32⟩
  | _, _ => ⟨S4x8192x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v1_1_scv : Ref sig .scVector := ⟨.hbm, 4, rfl⟩
abbrev main_v2_0_scv : Ref sig .scVector := ⟨.hbm, 5, rfl⟩
abbrev main_v2_1_scv : Ref sig .scVector := ⟨.hbm, 6, rfl⟩
abbrev main_v2_2_scv : Ref sig .scVector := ⟨.hbm, 7, rfl⟩
abbrev main_v2_3_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![0, v2.toNat]
def k1_off2 (i : grid1.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![1, v2.toNat]
def k1_off3 (i : grid1.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![2, v2.toNat]
def k1_off4 (i : grid1.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![3, v2.toNat]
def k1_off5 (i : grid1.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![4, v2.toNat]
def k1_off6 (i : grid1.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![5, v2.toNat]
def k1_off7 (i : grid1.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![6, v2.toNat]
def k1_off8 (i : grid1.Coords) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![7, v2.toNat]
@[reducible] def k1_t1_loop : Scf.Loop 32 :=
  let c0_i32_2 : BitVec 32 := 0#32
  let c64_i32 : BitVec 32 := 64#32
  let v3 : BitVec 32 := Scalar.addi c0_i32_2 c64_i32
  let c1_i32_3 : BitVec 32 := 1#32
  ⟨c0_i32_2, v3, c1_i32_3⟩
def k1_off9 (k1_t1 : Fin k1_t1_loop.trips) (c0_i32_5 : BitVec 32) : Fin 1 → Nat :=
  let c0_i32_2 : BitVec 32 := 0#32
  let c1_i32_3 : BitVec 32 := 1#32
  let arg12 : BitVec 32 := Scf.iv c0_i32_2 c1_i32_3 k1_t1
  let c16_i32 : BitVec 32 := 16#32
  let v4 : BitVec 32 := Scalar.muli arg12 c16_i32
  let v5 : BitVec 32 := Scalar.addi c0_i32_5 v4
  let v6 : Index := Scalar.indexCast v5
  ![v6.toNat]
def k1_off10 (k1_t1 : Fin k1_t1_loop.trips) : Fin 1 → Nat :=
  let c0_i32_2 : BitVec 32 := 0#32
  let c1_i32_3 : BitVec 32 := 1#32
  let arg12 : BitVec 32 := Scf.iv c0_i32_2 c1_i32_3 k1_t1
  let c16_i32 : BitVec 32 := 16#32
  let v4 : BitVec 32 := Scalar.muli arg12 c16_i32
  let v103 : Index := Scalar.indexCast v4
  ![v103.toNat]
def k1_off11 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S8x1024 : Shape := ⟨2, ![8, 1024]⟩
abbrev S32768x1024 : Shape := ⟨2, ![32768, 1024]⟩
abbrev S1024x8 : Shape := ⟨2, ![1024, 8]⟩
abbrev S32768x8 : Shape := ⟨2, ![32768, 8]⟩
abbrev S_ : Shape := ⟨0, ![]⟩
abbrev S32768 : Shape := ⟨1, ![32768]⟩
abbrev S32768x1 : Shape := ⟨2, ![32768, 1]⟩
abbrev S32768x2 : Shape := ⟨2, ![32768, 2]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8x1024, .f32⟩
  | .hbm, ⟨2, _⟩ => ⟨S32768x1024, .f32⟩
  | .hbm, ⟨3, _⟩ => ⟨S1024x8, .f32⟩
  | .hbm, ⟨4, _⟩ => ⟨S32768x8, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x8, .f32⟩
  | .hbm, ⟨12, _⟩ => ⟨S32768x8, .f32⟩
  | .hbm, ⟨13, _⟩ => ⟨S32768x8, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x8, .f32⟩
  | .hbm, ⟨18, _⟩ => ⟨S32768x8, .f32⟩
  | .hbm, ⟨19, _⟩ => ⟨S32768x2, .f32⟩
  | .hbm, ⟨20, _⟩ => ⟨S32768x2, .i32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩

abbrev nD : Nat := 1
abbrev τ : Topo := Topo.v7x

variable {F : FTy → Type} [FloatOps F]
-- ==== Proof.Setup.lean ====
/-
  The program as the SparseCore launch theorem sees it, the resource algebra, and what the one SparseCore call carries
  between the TensorCore and the thirty-two tasks, values included: the program is the same text at machine words and at
  ideal numbers, so everything here is over any float values `F`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component, -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- and the pipeline's. -/
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## One token's two best experts -/

variable [FloatOps F]

/-- The two best scores met so far and the experts they belong to. -/
structure Best (F : FTy → Type) where
  m1 : F .f32
  m2 : F .f32
  i1 : BitVec 32
  i2 : BitVec 32

/-- Before the scan of experts 1 to 7: expert 0 leads, nothing has come second. -/
def Best.start (c : F .f32) : Best F := ⟨c, FloatOps.ofBits .f32 0xFF800000#32, 0#32, 0#32⟩

/-- Expert `e` with score `c` enters: it takes the lead only when it is strictly greater than the leader, and then the old
    leader is second; otherwise it is second only when strictly greater than the old second. -/
def Best.step (s : Best F) (c : F .f32) (e : BitVec 32) : Best F :=
  let new := FloatOps.cmpf .ogt c s.m1
  let beats := FloatOps.cmpf .ogt c s.m2
  ⟨Scalar.select new c s.m1, Scalar.select new s.m1 (Scalar.select beats c s.m2),
   Scalar.select new e s.i1, Scalar.select new s.i1 (Scalar.select beats e s.i2)⟩

/-- The two best of a token's eight scores. -/
def best (c : Fin 8 → F .f32) : Best F :=
  (((((((Best.start (c 0)).step (c 1) 1#32).step (c 2) 2#32).step (c 3) 3#32).step (c 4) 4#32).step (c 5) 5#32).step (c 6) 6#32).step (c 7) 7#32

end Cert.Proof.Router
-- ==== Proof.Scan.lean ====
/-
  A group of sixteen tokens: what the four vectors that one trip stores hold, lane by lane, is the scan of the lane's eight
  scores.
-/
module

public import proofs.«01_k».proof.Proof.Setup
public import Idealize.ShloMosaic.Lib.Pipeline.Value
public import Idealize.ShloMosaic.Lib.ValueIdxCore

@[expose] public section

noncomputable section

namespace Cert.Proof.Router

open Cert.KernelIdeal Cert.KernelIdeal.Gen
open Idealize.ShloMosaic

variable {F : FTy → Type} [FloatOps F]

/-- A lane's eight scores, taken out of the eight rows that a trip loads. -/
def lane (v0 v1 v2 v3 v4 v5 v6 v7 : Vec F S16 .f32) (l : S16.Idx) : Fin 8 → F .f32
  | 0 => v0 l | 1 => v1 l | 2 => v2 l | 3 => v3 l | 4 => v4 l | 5 => v5 l | 6 => v6 l | 7 => v7 l

variable (v0 v1 v2 v3 v4 v5 v6 v7 : Vec F S16 .f32) (l : S16.Idx)

/-- The first stored vector is the greatest score of each lane. -/
theorem stored_m1 : k1_pay55 (k1_pay53 (k1_pay3 v2) (k1_pay4 v3) (k1_pay5 v4) (k1_pay6 v5) (k1_pay7 v6) (k1_pay8 v7) (k1_pay16 v0 v1)) l
    = (best (lane v0 v1 v2 v3 v4 v5 v6 v7 l)).m1 := by
  simp only [k1_pay55, k1_pay3, k1_pay4, k1_pay5, k1_pay6, k1_pay7, k1_pay8, k1_pay16, k1_pay12, k1_pay2, k1_pay1, shapeCast_self]
  rfl

/-- The second stored vector is the second greatest. -/
theorem stored_m2 : k1_pay56 (k1_pay51 (k1_pay3 v2) (k1_pay4 v3) (k1_pay5 v4) (k1_pay6 v5) (k1_pay7 v6) (k1_pay8 v7) (k1_pay14 v0 v1) (k1_pay16 v0 v1)) l
    = (best (lane v0 v1 v2 v3 v4 v5 v6 v7 l)).m2 := by
  simp only [k1_pay56, k1_pay3, k1_pay4, k1_pay5, k1_pay6, k1_pay7, k1_pay8, k1_pay16, k1_pay14, k1_pay13, k1_pay12, k1_pay2, k1_pay1, shapeCast_self]
  rfl

/-- The third is the expert of the greatest score. -/
theorem stored_i1 : k1_pay57 (k1_pay54 (k1_pay3 v2) (k1_pay4 v3) (k1_pay5 v4) (k1_pay6 v5) (k1_pay7 v6) (k1_pay8 v7) (k1_pay16 v0 v1) (k1_pay17 v0 v1) 2#32) l
    = (best (lane v0 v1 v2 v3 v4 v5 v6 v7 l)).i1 := by
  simp only [k1_pay57, k1_pay3, k1_pay4, k1_pay5, k1_pay6, k1_pay7, k1_pay8, k1_pay16, k1_pay17, k1_pay12, k1_pay2, k1_pay1, shapeCast_self]
  rfl

/-- The fourth is the expert of the second greatest. -/
theorem stored_i2 : k1_pay58 (k1_pay52 (k1_pay3 v2) (k1_pay4 v3) (k1_pay5 v4) (k1_pay6 v5) (k1_pay7 v6) (k1_pay8 v7) (k1_pay14 v0 v1) (k1_pay15 v0 v1)
      (k1_pay16 v0 v1) (k1_pay17 v0 v1) 2#32) l
    = (best (lane v0 v1 v2 v3 v4 v5 v6 v7 l)).i2 := by
  simp only [k1_pay58, k1_pay3, k1_pay4, k1_pay5, k1_pay6, k1_pay7, k1_pay8, k1_pay16, k1_pay14, k1_pay15, k1_pay17, k1_pay13, k1_pay12, k1_pay2, k1_pay1, shapeCast_self]
  rfl

end Cert.Proof.Router
-- ==== Proof.TileValue.lean ====
/-
  What a SparseCore task's buffers hold: the scores of its 1024 tokens row by row in the scratch, and, as its loop goes on,
  the scan's four answers for the tokens of the groups done so far.
-/
module

public import proofs.«01_k».proof.Proof.Scan

@[expose] public section

noncomputable section

namespace Cert.Proof.Router

open Cert.KernelIdeal Cert.KernelIdeal.Gen
open Idealize.ShloMosaic
open Idealize.ShloMosaic.ValueIdx (ix1 ix2 eq_ix1 eq_ix2)

variable {F : FTy → Type} [FloatOps F]

abbrev xW : Memref sig .scVector .hbm S8x32768 .f32 := Memref.whole main_v1_1_scv
abbrev aW : Memref sig .scVector .hbm S32768 .f32 := Memref.whole main_v2_0_scv
abbrev bW : Memref sig .scVector .hbm S32768 .f32 := Memref.whole main_v2_1_scv
abbrev cW : Memref sig .scVector .hbm S32768 .i32 := Memref.whole main_v2_2_scv
abbrev dW : Memref sig .scVector .hbm S32768 .i32 := Memref.whole main_v2_3_scv
abbrev s0 : Memref sig .scVector .vmem S8192 .f32 := Memref.whole cc1_scratch0
abbrev s1 : Memref sig .scVector .vmem S1024 .f32 := Memref.whole cc1_scratch1
abbrev s2 : Memref sig .scVector .vmem S1024 .f32 := Memref.whole cc1_scratch2
abbrev s3 : Memref sig .scVector .vmem S1024 .i32 := Memref.whole cc1_scratch3
abbrev s4 : Memref sig .scVector .vmem S1024 .i32 := Memref.whole cc1_scratch4

/-- The 1024 tokens of a task, as it slices them out of an output. -/
abbrev toks (L : grid1.Coords) : Rect S32768 := Rect.unit (s := S32768) (k1_off11 L) S1024.size (k1_off11_inb L)

/-- A token's scores, expert by expert. -/
def col (sv : S8x32768.Idx → F .f32) (n : Fin 32768) : Fin 8 → F .f32 := fun e => sv (ix2 e n)

/-- The task's token that stands at position `y` of its 1024. -/
def tok (L : grid1.Coords) (y : Fin 1024) : Fin 32768 :=
  ⟨2048 * (L 1).val + 1024 * (L 0).val + y.val, by
    have h0 : (L 0).val < 2 := (L 0).isLt
    have h1 : (L 1).val < 16 := (L 1).isLt
    have := y.isLt
    omega⟩

/-- The answers for a token. -/
abbrev ans (sv : S8x32768.Idx → F .f32) (L : grid1.Coords) (y : S1024.Idx) : Best F := best (col sv (tok L (y 0)))

/-- The scratch once the eight rows are in: row `e` of the scores at 1024 `e`. -/
def rows (sv : S8x32768.Idx → F .f32) (L : grid1.Coords) : S8192.Idx → F .f32 := fun y =>
  sv (ix2 ⟨(y 0).val / 1024, by have : (y 0).val < 8192 := (y 0).isLt; omega⟩ (tok L ⟨(y 0).val % 1024, Nat.mod_lt _ (by decide)⟩))

/-- One row copy's payload: the task's tokens of row `e`. -/
theorem row_read (sv : S8x32768.Idx → F .f32) (L : grid1.Coords) (off : Fin 2 → Nat) (inb) (e : Fin 8)
    (hoff : off = ![e.val, 2048 * (L 1).val + 1024 * (L 0).val]) (x : S1024.Idx) :
    View.read (Elt F) ((xW.slice (Rect.unit (s := S8x32768) off S1x1024.size inb) (fun _ => rfl)).squeeze S1024 squeezes_S1x1024_S1024).view sv x
      = sv (ix2 e (tok L (x 0))) := by
  subst hoff
  show sv ((Rect.unit (s := S8x32768) _ S1x1024.size inb).emb (Shape.reshapeEquiv _ x)) = _
  refine congrArg sv ?_
  rw [show Shape.reshapeEquiv _ x = (Fin.cons ⟨0, Nat.one_pos⟩ x : S1x1024.Idx) from Shape.reshapeEquiv_cons_one (n := 1) (d := ![1024]) _ x]
  funext a
  match a with
  | ⟨0, _⟩ => exact Fin.ext (by rw [Rect.emb_apply]; rfl)
  | ⟨1, _⟩ => exact Fin.ext (by rw [Rect.emb_apply]; show _ + 1 * (x 0).val = _; rw [Nat.one_mul]; rfl)

/-- A row's payload is the scratch's own contents where the row stands. -/
theorem row_at (sv : S8x32768.Idx → F .f32) (L : grid1.Coords) (w : S1024.Idx → F .f32) (e : Fin 8)
    (hw : ∀ x, w x = sv (ix2 e (tok L (x 0)))) (o : ℕ) (ho : o = 1024 * e.val) (inb) (x : S1024.Idx) :
    w x = rows sv L ((Rect.unit (s := S8192) ![o] S1024.size inb).emb x) := by
  subst ho
  rw [hw]
  have hx : (x 0).val < 1024 := (x 0).isLt
  have hv : (((Rect.unit (s := S8192) ![1024 * e.val] S1024.size inb).emb x) 0).val = 1024 * e.val + (x 0).val := by
    rw [Rect.emb_apply]; show _ + 1 * (x 0).val = _; rw [Nat.one_mul]; rfl
  unfold rows
  refine congrArg sv ?_
  congr 1
  · refine Fin.ext ?_
    show _ = (((Rect.unit (s := S8192) ![1024 * e.val] S1024.size inb).emb x) 0).val / 1024
    rw [hv]; omega
  · refine congrArg (tok L) (Fin.ext ?_)
    show (x 0).val = (((Rect.unit (s := S8192) ![1024 * e.val] S1024.size inb).emb x) 0).val % 1024
    rw [hv]; omega

/-- A scratch element stands in row `e` when it is between 1024 `e` and the next row. -/
theorem mem_row (y : S8192.Idx) (o : ℕ) (inb) (h : o ≤ (y 0).val ∧ (y 0).val < o + 1024) :
    y ∈ (Rect.unit (s := S8192) ![o] S1024.size inb).set :=
  Rect.mem_set_unit.mpr fun a => by
    obtain rfl : a = 0 := Fin.fin_one_eq_zero a
    exact h

/-- Eight payloads, row `e` of the scores at 1024 `e`, fill the scratch. -/
theorem rows_in {sp : Space} (v : View sig .scVector sp S8192 .f32) (sv : S8x32768.Idx → F .f32) (L : grid1.Coords) (g : v.ty.Contents (Elt F))
    (w0 w1 w2 w3 w4 w5 w6 w7 : S1024.Idx → F .f32) (i0 i1 i2 i3 i4 i5 i6 i7)
    (h0 : ∀ x, w0 x = sv (ix2 0 (tok L (x 0)))) (h1 : ∀ x, w1 x = sv (ix2 1 (tok L (x 0)))) (h2 : ∀ x, w2 x = sv (ix2 2 (tok L (x 0))))
    (h3 : ∀ x, w3 x = sv (ix2 3 (tok L (x 0)))) (h4 : ∀ x, w4 x = sv (ix2 4 (tok L (x 0)))) (h5 : ∀ x, w5 x = sv (ix2 5 (tok L (x 0))))
    (h6 : ∀ x, w6 x = sv (ix2 6 (tok L (x 0)))) (h7 : ∀ x, w7 x = sv (ix2 7 (tok L (x 0)))) :
    v.read (Elt F) (v.writes (Elt F) g
      [⟨Rect.unit (s := S8192) ![7168] S1024.size i7, w7⟩, ⟨Rect.unit (s := S8192) ![6144] S1024.size i6, w6⟩,
       ⟨Rect.unit (s := S8192) ![5120] S1024.size i5, w5⟩, ⟨Rect.unit (s := S8192) ![4096] S1024.size i4, w4⟩,
       ⟨Rect.unit (s := S8192) ![3072] S1024.size i3, w3⟩, ⟨Rect.unit (s := S8192) ![2048] S1024.size i2, w2⟩,
       ⟨Rect.unit (s := S8192) ![1024] S1024.size i1, w1⟩, ⟨Rect.unit (s := S8192) ![0] S1024.size i0, w0⟩]) = rows sv L := by
  funext y
  refine View.read_writes_apply_of_pieces v g (rows sv L) _ ?_ y ?_
  · exact List.forall_mem_cons.mpr ⟨row_at sv L w7 7 h7 7168 rfl i7, List.forall_mem_cons.mpr ⟨row_at sv L w6 6 h6 6144 rfl i6, List.forall_mem_cons.mpr ⟨row_at sv L w5 5 h5 5120 rfl i5,
      List.forall_mem_cons.mpr ⟨row_at sv L w4 4 h4 4096 rfl i4, List.forall_mem_cons.mpr ⟨row_at sv L w3 3 h3 3072 rfl i3, List.forall_mem_cons.mpr ⟨row_at sv L w2 2 h2 2048 rfl i2,
      List.forall_mem_cons.mpr ⟨row_at sv L w1 1 h1 1024 rfl i1, List.forall_mem_cons.mpr ⟨row_at sv L w0 0 h0 0 rfl i0, fun _ h => absurd h List.not_mem_nil⟩⟩⟩⟩⟩⟩⟩⟩
  · have hy : (y 0).val < 8192 := (y 0).isLt
    by_cases c7 : 7168 ≤ (y 0).val
    · exact ⟨_, .head _, mem_row y 7168 i7 ⟨c7, by omega⟩⟩
    by_cases c6 : 6144 ≤ (y 0).val
    · exact ⟨_, .tail _ (.head _), mem_row y 6144 i6 ⟨c6, by omega⟩⟩
    by_cases c5 : 5120 ≤ (y 0).val
    · exact ⟨_, .tail _ (.tail _ (.head _)), mem_row y 5120 i5 ⟨c5, by omega⟩⟩
    by_cases c4 : 4096 ≤ (y 0).val
    · exact ⟨_, .tail _ (.tail _ (.tail _ (.head _))), mem_row y 4096 i4 ⟨c4, by omega⟩⟩
    by_cases c3 : 3072 ≤ (y 0).val
    · exact ⟨_, .tail _ (.tail _ (.tail _ (.tail _ (.head _)))), mem_row y 3072 i3 ⟨c3, by omega⟩⟩
    by_cases c2 : 2048 ≤ (y 0).val
    · exact ⟨_, .tail _ (.tail _ (.tail _ (.tail _ (.tail _ (.head _))))), mem_row y 2048 i2 ⟨c2, by omega⟩⟩
    by_cases c1 : 1024 ≤ (y 0).val
    · exact ⟨_, .tail _ (.tail _ (.tail _ (.tail _ (.tail _ (.tail _ (.head _)))))), mem_row y 1024 i1 ⟨c1, by omega⟩⟩
    exact ⟨_, .tail _ (.tail _ (.tail _ (.tail _ (.tail _ (.tail _ (.tail _ (.head _))))))), mem_row y 0 i0 ⟨Nat.zero_le _, by omega⟩⟩

/-- The eight loads of a trip read lane `l`'s token's scores. -/
theorem lane_rows (sv : S8x32768.Idx → F .f32) (L : grid1.Coords) (k : Fin k1_t1_loop.trips) (i0 i1 i2 i3 i4 i5 i6 i7) (l : S16.Idx) :
    lane
      (View.readAt (Elt F) s0.view (Rect.unit (s := S8192) (k1_off9 k 0#32) S16.size i0).toLoadRect (rows sv L))
      (View.readAt (Elt F) s0.view (Rect.unit (s := S8192) (k1_off9 k 1024#32) S16.size i1).toLoadRect (rows sv L))
      (View.readAt (Elt F) s0.view (Rect.unit (s := S8192) (k1_off9 k 2048#32) S16.size i2).toLoadRect (rows sv L))
      (View.readAt (Elt F) s0.view (Rect.unit (s := S8192) (k1_off9 k 3072#32) S16.size i3).toLoadRect (rows sv L))
      (View.readAt (Elt F) s0.view (Rect.unit (s := S8192) (k1_off9 k 4096#32) S16.size i4).toLoadRect (rows sv L))
      (View.readAt (Elt F) s0.view (Rect.unit (s := S8192) (k1_off9 k 5120#32) S16.size i5).toLoadRect (rows sv L))
      (View.readAt (Elt F) s0.view (Rect.unit (s := S8192) (k1_off9 k 6144#32) S16.size i6).toLoadRect (rows sv L))
      (View.readAt (Elt F) s0.view (Rect.unit (s := S8192) (k1_off9 k 7168#32) S16.size i7).toLoadRect (rows sv L)) l
      = col sv (tok L ((Rect.unit (s := S1024) (k1_off10 k) S16.size (k1_off10_inb k)).emb l 0)) := by
  have hl : (l 0).val < 16 := (l 0).isLt
  have hk : k.val < 64 := k.isLt
  have ho : (((Rect.unit (s := S1024) (k1_off10 k) S16.size (k1_off10_inb k)).emb l) 0).val = 16 * k.val + (l 0).val := by
    rw [Rect.emb_apply]; show k1_off10 k 0 + 1 * (l 0).val = _; rw [Nat.one_mul, k1_off10_eq]; rfl
  have key : ∀ (e : Fin 8) (off : Fin 1 → Nat) (inb) (_ : off = ![1024 * e.val + 16 * k.val]),
      View.readAt (Elt F) s0.view (Rect.unit (s := S8192) off S16.size inb).toLoadRect (rows sv L) l
        = sv (ix2 e (tok L ((Rect.unit (s := S1024) (k1_off10 k) S16.size (k1_off10_inb k)).emb l 0))) := by
    intro e off inb hoff
    subst hoff
    show rows sv L ((Rect.unit (s := S8192) ![1024 * e.val + 16 * k.val] S16.size inb).emb l) = _
    have hv : (((Rect.unit (s := S8192) ![1024 * e.val + 16 * k.val] S16.size inb).emb l) 0).val = 1024 * e.val + 16 * k.val + (l 0).val := by
      rw [Rect.emb_apply]; show _ + 1 * (l 0).val = _; rw [Nat.one_mul]; rfl
    unfold rows
    refine congrArg sv ?_
    congr 1
    · refine Fin.ext ?_
      show (((Rect.unit (s := S8192) ![1024 * e.val + 16 * k.val] S16.size inb).emb l) 0).val / 1024 = _
      rw [hv]; omega
    · refine congrArg (tok L) (Fin.ext ?_)
      show (((Rect.unit (s := S8192) ![1024 * e.val + 16 * k.val] S16.size inb).emb l) 0).val % 1024 = _
      rw [hv, ho]; omega
  funext e
  match e with
  | 0 => exact key 0 _ _ (k1_off9_eq k 0)
  | 1 => exact key 1 _ _ (k1_off9_eq k 1)
  | 2 => exact key 2 _ _ (k1_off9_eq k 2)
  | 3 => exact key 3 _ _ (k1_off9_eq k 3)
  | 4 => exact key 4 _ _ (k1_off9_eq k 4)
  | 5 => exact key 5 _ _ (k1_off9_eq k 5)
  | 6 => exact key 6 _ _ (k1_off9_eq k 6)
  | 7 => exact key 7 _ _ (k1_off9_eq k 7)

/-- A buffer of answers that is right for the groups before `k` is right for those up to `k` once trip `k` has stored its
    sixteen. -/
theorem trip_stores {sp : Space} {e : EltTy} (v : View sig .scVector sp S1024 e) (k : Fin k1_t1_loop.trips) (g : v.ty.Contents (Elt F))
    (p : S16.Idx → Elt F e) (want : S1024.Idx → Elt F e) (hg : ∀ y : S1024.Idx, (y 0).val < 16 * k.val → v.read (Elt F) g y = want y)
    (hp : ∀ l, p l = want ((Rect.unit (s := S1024) (k1_off10 k) S16.size (k1_off10_inb k)).emb l)) :
    ∀ y : S1024.Idx, (y 0).val < 16 * (k.val + 1) →
      v.read (Elt F) (v.writes (Elt F) g [⟨Rect.unit (s := S1024) (k1_off10 k) S16.size (k1_off10_inb k), p⟩]) y = want y := by
  intro y hy
  by_cases hm : y ∈ (Rect.unit (s := S1024) (k1_off10 k) S16.size (k1_off10_inb k)).set
  · obtain ⟨l, rfl⟩ := (Rect.unit (s := S1024) (k1_off10 k) S16.size (k1_off10_inb k)).exists_idx_of_mem hm
    exact (View.read_writes_cons_emb v g (Rect.unit (s := S1024) (k1_off10 k) S16.size (k1_off10_inb k)) p [] l).trans (hp l)
  · rw [View.read_writes_apply_of_forall_not_mem _ _ _ _ (by
      intro q hq
      rw [List.mem_singleton] at hq
      subst hq
      exact hm)]
    refine hg y ?_
    by_contra hlt
    refine hm (Rect.mem_set_unit.mpr fun a => ?_)
    obtain rfl : a = 0 := Fin.fin_one_eq_zero a
    rw [k1_off10_eq]
    exact ⟨Nat.le_of_not_lt hlt, show (y 0).val < 16 * k.val + 16 by omega⟩

/-- What the scratch holds before trip `k`. -/
structure Held (sv : S8x32768.Idx → F .f32) (L : grid1.Coords) (k : ℕ) (G : S8192.Idx → F .f32) (h1 h2 : S1024.Idx → F .f32)
    (h3 h4 : S1024.Idx → BitVec 32) : Prop where
  rows : G = rows sv L
  m1 : ∀ y : S1024.Idx, (y 0).val < 16 * k → h1 y = (ans sv L y).m1
  m2 : ∀ y : S1024.Idx, (y 0).val < 16 * k → h2 y = (ans sv L y).m2
  i1 : ∀ y : S1024.Idx, (y 0).val < 16 * k → h3 y = (ans sv L y).i1
  i2 : ∀ y : S1024.Idx, (y 0).val < 16 * k → h4 y = (ans sv L y).i2

/-- What the four outputs hold in the end. -/
def outM1 (sv : S8x32768.Idx → F .f32) : S32768.Idx → F .f32 := fun i => (best (col sv (i 0))).m1
def outM2 (sv : S8x32768.Idx → F .f32) : S32768.Idx → F .f32 := fun i => (best (col sv (i 0))).m2
def outI1 (sv : S8x32768.Idx → F .f32) : S32768.Idx → BitVec 32 := fun i => (best (col sv (i 0))).i1
def outI2 (sv : S8x32768.Idx → F .f32) : S32768.Idx → BitVec 32 := fun i => (best (col sv (i 0))).i2

/-- The token under position `y` of a task's slice of an output. -/
theorem toks_emb (L : grid1.Coords) (y : S1024.Idx) : (toks L).emb y 0 = tok L (y 0) := by
  refine Fin.ext ?_
  rw [Rect.emb_apply]
  show k1_off11 L 0 + 1 * (y 0).val = _
  rw [Nat.one_mul, k1_off11_eq]
  rfl

end Cert.Proof.Router
-- ==== Proof.Tile.lean ====
/-
  The SparseCore task: its eight row copies in, the loop over 64 groups of sixteen tokens, its four copies out.
-/
module

public import proofs.«01_k».proof.Proof.TileValue
public import Idealize.ShloMosaic.Lib.ViewIndex

@[expose] public section

noncomputable section

namespace Cert.Proof.Router

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The loop's invariant: before trip `k` the scratch holds the task's scores and the answers of the groups before `k`. -/
def inv (f : Buf (Elt F) (xW.view.loc (thr d L))) (k : ℕ) (_ : PUnit) : sProp 𝕄 :=
  iprop(∃ (G : Buf (Elt F) (s0.view.loc (thr d L))) (h1 : Buf (Elt F) (s1.view.loc (thr d L))) (h2 : Buf (Elt F) (s2.view.loc (thr d L)))
      (h3 : Buf (Elt F) (s3.view.loc (thr d L))) (h4 : Buf (Elt F) (s4.view.loc (thr d L))),
    (s0.view.loc (thr d L) ↦{fullShare} G) ∗ (s1.view.loc (thr d L) ↦{fullShare} h1) ∗ (s2.view.loc (thr d L) ↦{fullShare} h2)
      ∗ (s3.view.loc (thr d L) ↦{fullShare} h3) ∗ (s4.view.loc (thr d L) ↦{fullShare} h4) ∗ ⌜Held f L k G h1 h2 h3 h4⌝)

/-- One trip: eight loads, the scan, four stores. -/
theorem group_run (f : Buf (Elt F) (xW.view.loc (thr d L))) (k : Fin k1_t1_loop.trips) :
    (inv d L f k.val ⟨⟩ : sProp 𝕄)
      ⊢ wp frame (wpE (defs₀ (F := F)) 𝒱₀ (thr d L) none) Set.univ
          (k1_t1_body (F := F) L xW (Memref.isWhole_whole _) aW (Memref.isWhole_whole _) bW (Memref.isWhole_whole _) cW (Memref.isWhole_whole _) dW (Memref.isWhole_whole _)
            s0 (Memref.isWhole_whole _) s1 (Memref.isWhole_whole _) s2 (Memref.isWhole_whole _) s3 (Memref.isWhole_whole _) s4 (Memref.isWhole_whole _)
            cc1_scoped0 cc1_scoped1 cc1_scoped2 cc1_scoped3 cc1_scoped4 cc1_scoped5 cc1_scoped6 cc1_scoped7 cc1_scoped8 cc1_scoped9 cc1_scoped10 cc1_scoped11 k ⟨⟩)
          fun a => inv d L f (k.val + 1) a := by
  unfold k1_t1_body
  rw [k1_part1_eq_skeleton, k1_part2_eq_skeleton]
  unfold k1_part1_skel k1_part2_skel inv
  iintro ⟨%G, %g1, %g2, %g3, %g4, H0, H1, H2, H3, H4, %hH⟩
  sl_exec
  rw [wp_ret]; imodintro
  iexists _; iexists _; iexists _; iexists _; iexists _
  isplitl [H0]; · iexact H0
  isplitl [H1]; · iexact H1
  isplitl [H2]; · iexact H2
  isplitl [H3]; · iexact H3
  isplitl [H4]; · iexact H4
  ipureintro
  obtain ⟨rfl, e1, e2, e3, e4⟩ := hH
  exact ⟨rfl,
    trip_stores s1.view k g1 _ _ e1 fun l => (stored_m1 _ _ _ _ _ _ _ _ l).trans (congrArg (fun c => (best c).m1) (lane_rows f L k _ _ _ _ _ _ _ _ l)),
    trip_stores s2.view k g2 _ _ e2 fun l => (stored_m2 _ _ _ _ _ _ _ _ l).trans (congrArg (fun c => (best c).m2) (lane_rows f L k _ _ _ _ _ _ _ _ l)),
    trip_stores s3.view k g3 _ _ e3 fun l => (stored_i1 _ _ _ _ _ _ _ _ l).trans (congrArg (fun c => (best c).i1) (lane_rows f L k _ _ _ _ _ _ _ _ l)),
    trip_stores s4.view k g4 _ _ e4 fun l => (stored_i2 _ _ _ _ _ _ _ _ l).trans (congrArg (fun c => (best c).i2) (lane_rows f L k _ _ _ _ _ _ _ _ l))⟩

/-- A buffer written through a whole view with `h` is, on the view's own elements, any contents that read as `h`. -/
theorem written_is {sp : Space} {s : Shape} {e : EltTy} (t : Thread nD τ) (v : View sig t.2.kind sp s e) (fa o : Buf (Elt F) (v.loc t)) (h : s.Idx → Elt F e)
    (ho : ∀ y, h y = v.read (Elt F) o y) :
    ((v.loc t ↦[v.set]{fullShare} v.writes (Elt F) fa [⟨Rect.whole s, h⟩]) : sProp 𝕄) ⊢ v.loc t ↦[v.set]{fullShare} o := by
  rw [pointsTo_congr (g := o) fun i hi => ?_]
  obtain ⟨y, -, rfl⟩ := Finset.mem_map.mp hi
  exact View.eq_of_read_eq ((congrFun (View.read_writes_whole v fa h) y).trans (ho y))

set_option maxHeartbeats 4000000 in
theorem task_run (q : PosShare TreeShare) (f : Buf (Elt F) (xW.view.loc (thr d L)))
    (fa : Buf (Elt F) (aW.view.loc (thr d L))) (fb : Buf (Elt F) (bW.view.loc (thr d L)))
    (fc : Buf (Elt F) (cW.view.loc (thr d L))) (fd : Buf (Elt F) (dW.view.loc (thr d L)))
    (g0 : Buf (Elt F) (s0.view.loc (thr d L))) (g1 : Buf (Elt F) (s1.view.loc (thr d L))) (g2 : Buf (Elt F) (s2.view.loc (thr d L)))
    (g3 : Buf (Elt F) (s3.view.loc (thr d L))) (g4 : Buf (Elt F) (s4.view.loc (thr d L)))
    (O : CellTallies nD τ sig (HIx 1)) (W : Waits sig (HIx 1)) :
    (iprop(Transfers.MayWaits (thr d L) (none : HIx 1) O ∗ (xW.view.loc (thr d L) ↦{q} f)
        ∗ ((aW.slice (toks L) (fun _ => rfl)).view.loc (thr d L) ↦[(aW.slice (toks L) (fun _ => rfl)).view.set]{fullShare} fa)
        ∗ ((bW.slice (toks L) (fun _ => rfl)).view.loc (thr d L) ↦[(bW.slice (toks L) (fun _ => rfl)).view.set]{fullShare} fb)
        ∗ ((cW.slice (toks L) (fun _ => rfl)).view.loc (thr d L) ↦[(cW.slice (toks L) (fun _ => rfl)).view.set]{fullShare} fc)
        ∗ ((dW.slice (toks L) (fun _ => rfl)).view.loc (thr d L) ↦[(dW.slice (toks L) (fun _ => rfl)).view.set]{fullShare} fd)
        ∗ (s0.view.loc (thr d L) ↦{fullShare} g0) ∗ (s1.view.loc (thr d L) ↦{fullShare} g1) ∗ (s2.view.loc (thr d L) ↦{fullShare} g2)
        ∗ (s3.view.loc (thr d L) ↦{fullShare} g3) ∗ (s4.view.loc (thr d L) ↦{fullShare} g4)
        ∗ semVal (thr d L, SemLoc.dma cc1_scoped0.sem) 0 ∗ semVal (thr d L, SemLoc.dma cc1_scoped1.sem) 0 ∗ semVal (thr d L, SemLoc.dma cc1_scoped2.sem) 0
        ∗ semVal (thr d L, SemLoc.dma cc1_scoped3.sem) 0 ∗ semVal (thr d L, SemLoc.dma cc1_scoped4.sem) 0 ∗ semVal (thr d L, SemLoc.dma cc1_scoped5.sem) 0
        ∗ semVal (thr d L, SemLoc.dma cc1_scoped6.sem) 0 ∗ semVal (thr d L, SemLoc.dma cc1_scoped7.sem) 0 ∗ semVal (thr d L, SemLoc.dma cc1_scoped8.sem) 0
        ∗ semVal (thr d L, SemLoc.dma cc1_scoped9.sem) 0 ∗ semVal (thr d L, SemLoc.dma cc1_scoped10.sem) 0 ∗ semVal (thr d L, SemLoc.dma cc1_scoped11.sem) 0
        ∗ owes (thr d L) O W) : sProp 𝕄)
      ⊢ wp frame (wpE (defs₀ (F := F)) 𝒱₀ (thr d L) none) Set.univ
          (cc1_topk_sc (F := F) L xW (Memref.isWhole_whole _) aW (Memref.isWhole_whole _) bW (Memref.isWhole_whole _) cW (Memref.isWhole_whole _) dW (Memref.isWhole_whole _)
            s0 (Memref.isWhole_whole _) s1 (Memref.isWhole_whole _) s2 (Memref.isWhole_whole _) s3 (Memref.isWhole_whole _) s4 (Memref.isWhole_whole _)
            cc1_scoped0 cc1_scoped1 cc1_scoped2 cc1_scoped3 cc1_scoped4 cc1_scoped5 cc1_scoped6 cc1_scoped7 cc1_scoped8 cc1_scoped9 cc1_scoped10 cc1_scoped11)
          fun _ => iprop((xW.view.loc (thr d L) ↦{q} f)
            ∗ ((aW.slice (toks L) (fun _ => rfl)).view.loc (thr d L) ↦[(aW.slice (toks L) (fun _ => rfl)).view.set]{fullShare} outM1 f)
            ∗ ((bW.slice (toks L) (fun _ => rfl)).view.loc (thr d L) ↦[(bW.slice (toks L) (fun _ => rfl)).view.set]{fullShare} outM2 f)
            ∗ ((cW.slice (toks L) (fun _ => rfl)).view.loc (thr d L) ↦[(cW.slice (toks L) (fun _ => rfl)).view.set]{fullShare} outI1 f)
            ∗ ((dW.slice (toks L) (fun _ => rfl)).view.loc (thr d L) ↦[(dW.slice (toks L) (fun _ => rfl)).view.set]{fullShare} outI2 f)
            ∗ (∃ g, s0.view.loc (thr d L) ↦{fullShare} g) ∗ (∃ g, s1.view.loc (thr d L) ↦{fullShare} g) ∗ (∃ g, s2.view.loc (thr d L) ↦{fullShare} g)
            ∗ (∃ g, s3.view.loc (thr d L) ↦{fullShare} g) ∗ (∃ g, s4.view.loc (thr d L) ↦{fullShare} g)
            ∗ semVal (thr d L, SemLoc.dma cc1_scoped0.sem) 0 ∗ semVal (thr d L, SemLoc.dma cc1_scoped1.sem) 0 ∗ semVal (thr d L, SemLoc.dma cc1_scoped2.sem) 0
            ∗ semVal (thr d L, SemLoc.dma cc1_scoped3.sem) 0 ∗ semVal (thr d L, SemLoc.dma cc1_scoped4.sem) 0 ∗ semVal (thr d L, SemLoc.dma cc1_scoped5.sem) 0
            ∗ semVal (thr d L, SemLoc.dma cc1_scoped6.sem) 0 ∗ semVal (thr d L, SemLoc.dma cc1_scoped7.sem) 0 ∗ semVal (thr d L, SemLoc.dma cc1_scoped8.sem) 0
            ∗ semVal (thr d L, SemLoc.dma cc1_scoped9.sem) 0 ∗ semVal (thr d L, SemLoc.dma cc1_scoped10.sem) 0 ∗ semVal (thr d L, SemLoc.dma cc1_scoped11.sem) 0
            ∗ ∃ W', owes (thr d L) O W') := by
  rw [cc1_topk_sc_eq_skeleton]; unfold cc1_topk_sc_skel
  rw [k1_part3_eq_skeleton, k1_part4_eq_skeleton, k1_part5_eq_skeleton]
  unfold k1_part3_skel k1_part4_skel k1_part5_skel
  iintro ⟨Hmw, Hx, Ha, Hb, Hc, Hd, H0, H1, H2, H3, H4, C0, C1, C2, C3, C4, C5, C6, C7, C8, C9, C10, C11, HO⟩
  sl_exec (disch := exact View.amount_pos _ _ (show 0 < S1024.numel by decide))
  rw [bind_assoc]
  sl_for (inv d L f) $$ [H0 H1 H2 H3 H4]
  case region =>
    intro k _
    exact group_run d L f k
  · unfold inv
    iexists _; iexists _; iexists _; iexists _; iexists _
    isplitl [H0]; · iexact H0
    isplitl [H1]; · iexact H1
    isplitl [H2]; · iexact H2
    isplitl [H3]; · iexact H3
    isplitl [H4]; · iexact H4
    ipureintro
    refine ⟨rows_in s0.view f L g0 _ _ _ _ _ _ _ _ _ _ _ _ _ _ _ _ ?_ ?_ ?_ ?_ ?_ ?_ ?_ ?_, ?_, ?_, ?_, ?_⟩
    · exact fun x => row_read f L (k1_off1 L) (k1_off1_inb L) 0 (k1_off1_eq L) x
    · exact fun x => row_read f L (k1_off2 L) (k1_off2_inb L) 1 (k1_off2_eq L) x
    · exact fun x => row_read f L (k1_off3 L) (k1_off3_inb L) 2 (k1_off3_eq L) x
    · exact fun x => row_read f L (k1_off4 L) (k1_off4_inb L) 3 (k1_off4_eq L) x
    · exact fun x => row_read f L (k1_off5 L) (k1_off5_inb L) 4 (k1_off5_eq L) x
    · exact fun x => row_read f L (k1_off6 L) (k1_off6_inb L) 5 (k1_off6_eq L) x
    · exact fun x => row_read f L (k1_off7 L) (k1_off7_inb L) 6 (k1_off7_eq L) x
    · exact fun x => row_read f L (k1_off8 L) (k1_off8_inb L) 7 (k1_off8_eq L) x
    all_goals exact fun y hy => absurd hy (Nat.not_lt_zero _)
  iintro %_ HI
  unfold inv
  icases HI with ⟨%G, %h1, %h2, %h3, %h4, H0, H1, H2, H3, H4, %hH⟩
  sl_exec (disch := exact View.amount_pos _ _ (show 0 < S1024.numel by decide))
  rw [wp_ret]; imodintro
  obtain ⟨-, e1, e2, e3, e4⟩ := hH
  have all : ∀ y : S1024.Idx, (y 0).val < 16 * Scf.trips k1_t1_loop.lb k1_t1_loop.ub k1_t1_loop.st := fun y => (y 0).isLt
  isplitl [Hx]; · iexact Hx
  isplitl [Ha]
  · iapply (written_is (thr d L) (aW.slice (toks L) (fun _ => rfl)).view fa (outM1 f) _ fun y => ?_) $$ Ha
    exact (e1 y (all y)).trans (congrArg (fun n => (best (col f n)).m1) (toks_emb L y).symm)
  isplitl [Hb]
  · iapply (written_is (thr d L) (bW.slice (toks L) (fun _ => rfl)).view fb (outM2 f) _ fun y => ?_) $$ Hb
    exact (e2 y (all y)).trans (congrArg (fun n => (best (col f n)).m2) (toks_emb L y).symm)
  isplitl [Hc]
  · iapply (written_is (thr d L) (cW.slice (toks L) (fun _ => rfl)).view fc (outI1 f) _ fun y => ?_) $$ Hc
    exact (e3 y (all y)).trans (congrArg (fun n => (best (col f n)).i1) (toks_emb L y).symm)
  isplitl [Hd]
  · iapply (written_is (thr d L) (dW.slice (toks L) (fun _ => rfl)).view fd (outI2 f) _ fun y => ?_) $$ Hd
    exact (e4 y (all y)).trans (congrArg (fun n => (best (col f n)).i2) (toks_emb L y).symm)
  isplitl [H0]; · iexists _; iexact H0
  isplitl [H1]; · iexists _; iexact H1
  isplitl [H2]; · iexists _; iexact H2
  isplitl [H3]; · iexists _; iexact H3
  isplitl [H4]; · iexists _; iexact H4
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  iexists _; iexact HO

end Tile

end Cert.Proof.Router
-- ==== Proof.Tasks.lean ====
/-
  The SparseCore call: what the TensorCore hands each SparseCore and each SparseCore its sixteen tasks, and back.

  A task reads its tokens' scores through a share of the whole scores array and owns its 1024 tokens of each of the four
  outputs; afterwards those hold the scan's answers.
-/
module

public import proofs.«01_k».proof.Proof.Tile

@[expose] public section

noncomputable section

namespace Cert.Proof.Router

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.ShloMosaic.Transfers (shareTokN shareDrop pointsTo_toks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and the tasks' parts -/

abbrev sLoc (d : Dev nD) : Loc nD τ sig := (SparseCore.T d).loc main_v1_1
abbrev aLoc (d : Dev nD) : Loc nD τ sig := (SparseCore.T d).loc main_v2_0
abbrev bLoc (d : Dev nD) : Loc nD τ sig := (SparseCore.T d).loc main_v2_1
abbrev cLoc (d : Dev nD) : Loc nD τ sig := (SparseCore.T d).loc main_v2_2
abbrev eLoc (d : Dev nD) : Loc nD τ sig := (SparseCore.T d).loc main_v2_3

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- Task `(c, i)`'s tokens, -/
def tileSet (c : Fin 2) (i : Fin 16) : Finset S32768.Idx := (toks (coordsV c i)).set
/-- and SparseCore `c`'s: its sixteen tasks'. -/
def coreSet (c : Fin 2) : Finset S32768.Idx := Finset.univ.biUnion (tileSet c)

theorem mem_tileSet (c : Fin 2) (i : Fin 16) (x : S32768.Idx) :
    x ∈ tileSet c i ↔ 2048 * i.val + 1024 * c.val ≤ (x 0).val ∧ (x 0).val < 2048 * i.val + 1024 * c.val + 1024 := by
  unfold tileSet toks
  rw [Rect.mem_set_unit, k1_off11_eq]
  constructor
  · exact fun h => h 0
  · intro h a
    obtain rfl : a = 0 := Fin.fin_one_eq_zero a
    exact h

theorem tileSet_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun x hi hj => h (Fin.ext ?_)
  rw [mem_tileSet] at hi hj
  omega

theorem coreSet_disjoint : ∀ c ∈ (Finset.univ : Finset (Fin 2)), ∀ c' ∈ (Finset.univ : Finset (Fin 2)), c ≠ c' → Disjoint (coreSet c) (coreSet c') := by
  intro c _ c' _ h
  refine Finset.disjoint_left.mpr fun x hi hj => h (Fin.ext ?_)
  obtain ⟨i, -, hi⟩ := Finset.mem_biUnion.mp hi
  obtain ⟨j, -, hj⟩ := Finset.mem_biUnion.mp hj
  rw [mem_tileSet] at hi hj
  omega

theorem coreSet_cover : (Finset.univ : Finset (Fin 2)).biUnion coreSet = Finset.univ := by
  refine Finset.eq_univ_iff_forall.mpr fun x => ?_
  have hx : (x 0).val < 32768 := (x 0).isLt
  refine Finset.mem_biUnion.mpr ⟨⟨(x 0).val / 1024 % 2, Nat.mod_lt _ (by decide)⟩, Finset.mem_univ _,
    Finset.mem_biUnion.mpr ⟨⟨(x 0).val / 2048, by omega⟩, Finset.mem_univ _, (mem_tileSet _ _ _).mpr ⟨?_, ?_⟩⟩⟩
  · show 2048 * ((x 0).val / 2048) + 1024 * ((x 0).val / 1024 % 2) ≤ _; omega
  · show _ < 2048 * ((x 0).val / 2048) + 1024 * ((x 0).val / 1024 % 2) + 1024; omega

theorem sliceA_set (L : grid1.Coords) : (aW.slice (toks L) (fun _ => rfl)).view.set = (toks L).set := by
  show ((View.whole (main_v2_0_scv : Ref sig .scVector)).slice (toks L)).set = _
  rw [View.set_slice]; exact Finset.map_refl
theorem sliceB_set (L : grid1.Coords) : (bW.slice (toks L) (fun _ => rfl)).view.set = (toks L).set := by
  show ((View.whole (main_v2_1_scv : Ref sig .scVector)).slice (toks L)).set = _
  rw [View.set_slice]; exact Finset.map_refl
theorem sliceC_set (L : grid1.Coords) : (cW.slice (toks L) (fun _ => rfl)).view.set = (toks L).set := by
  show ((View.whole (main_v2_2_scv : Ref sig .scVector)).slice (toks L)).set = _
  rw [View.set_slice]; exact Finset.map_refl
theorem sliceD_set (L : grid1.Coords) : (dW.slice (toks L) (fun _ => rfl)).view.set = (toks L).set := by
  show ((View.whole (main_v2_3_scv : Ref sig .scVector)).slice (toks L)).set = _
  rw [View.set_slice]; exact Finset.map_refl

/-- The four outputs on a set of tokens, each at its contents. -/
abbrev outs (d : Dev nD) (I : Finset S32768.Idx) (fa : Buf (Elt F) (aLoc d)) (fb : Buf (Elt F) (bLoc d)) (fc : Buf (Elt F) (cLoc d)) (fe : Buf (Elt F) (eLoc d)) : sProp 𝕄 :=
  iprop((aLoc d ↦[I]{fullShare} fa) ∗ (bLoc d ↦[I]{fullShare} fb) ∗ (cLoc d ↦[I]{fullShare} fc) ∗ (eLoc d ↦[I]{fullShare} fe))

/-- They split along disjoint sets of tokens. -/
theorem outs_biUnion {n : ℕ} (d : Dev nD) (R : Fin n → Finset S32768.Idx)
    (h : ∀ i ∈ (Finset.univ : Finset (Fin n)), ∀ j ∈ (Finset.univ : Finset (Fin n)), i ≠ j → Disjoint (R i) (R j))
    (fa : Buf (Elt F) (aLoc d)) (fb : Buf (Elt F) (bLoc d)) (fc : Buf (Elt F) (cLoc d)) (fe : Buf (Elt F) (eLoc d)) :
    (outs d (Finset.univ.biUnion R) fa fb fc fe : sProp 𝕄) = bigSep Finset.univ fun i => outs d (R i) fa fb fc fe := by
  unfold outs
  rw [bigSep_sep', bigSep_sep', bigSep_sep', ← pointsTo_biUnion (ℓ := aLoc d) Finset.univ R h, ← pointsTo_biUnion (ℓ := bLoc d) Finset.univ R h,
    ← pointsTo_biUnion (ℓ := cLoc d) Finset.univ R h, ← pointsTo_biUnion (ℓ := eLoc d) Finset.univ R h]

variable [FloatOps F] (m : (ℓ : Loc nD τ sig) → Buf (Elt F) ℓ) (sv : (d : Dev nD) → Buf (Elt F) (sLoc d))

/-! ## What the handshakes carry -/

/-- SparseCore `c`'s share of the scores, -/
abbrev shC (c : ℕ) : PosShare TreeShare := shareTokN fullShare c
/-- task `(c, i)`'s. -/
abbrev shT (c i : ℕ) : PosShare TreeShare := shareTokN (shC c) i

/-- The outputs as the launch left them, -/
abbrev outs₀ (d : Dev nD) (I : Finset S32768.Idx) : sProp 𝕄 := outs d I (m (aLoc d)) (m (bLoc d)) (m (cLoc d)) (m (eLoc d))
/-- and with the scan's answers. -/
abbrev outs₁ (d : Dev nD) (I : Finset S32768.Idx) : sProp 𝕄 := outs d I (outM1 (sv d)) (outM2 (sv d)) (outI1 (sv d)) (outI2 (sv d))

abbrev stP (d : Dev nD) (c : Fin 2) : sProp 𝕄 := iprop((sLoc d ↦{shC c.val} sv d) ∗ outs₀ m d (coreSet c))
abbrev dnP (d : Dev nD) (c : Fin 2) : sProp 𝕄 := iprop((sLoc d ↦{shC c.val} sv d) ∗ outs₁ sv d (coreSet c))
abbrev goP (d : Dev nD) (c : Fin 2) (i : Fin 16) : sProp 𝕄 := iprop((sLoc d ↦{shT c.val i.val} sv d) ∗ outs₀ m d (tileSet c i))
abbrev tdP (d : Dev nD) (c : Fin 2) (i : Fin 16) : sProp 𝕄 := iprop((sLoc d ↦{shT c.val i.val} sv d) ∗ outs₁ sv d (tileSet c i))

def P : (K (F := F)).Pay (nD := nD) (Val := Elt F) (Name := ℕ) (U := UU) where
  st := fun q d c => match q with | 0 => stP m sv d (Fin.cast nCore_zero c)
  dn := fun q d c => match q with | 0 => dnP sv d (Fin.cast nCore_zero c)
  go := fun q d c i => match q with | 0 => goP m sv d (Fin.cast nCore_zero c) (Fin.cast nSub_zero i)
  td := fun q d c i => match q with | 0 => tdP sv d (Fin.cast nCore_zero c) (Fin.cast nSub_zero i)
  x := fun _ _ => iprop(emp)

instance P_storable : (P (F := F) m sv).IsStorable where
  st q d c := match q with | 0 => (inferInstance : BI.Storable (upEmb : UEmb _ 𝕄) (stP m sv d (Fin.cast nCore_zero c)))
  dn q d c := match q with | 0 => (inferInstance : BI.Storable (upEmb : UEmb _ 𝕄) (dnP sv d (Fin.cast nCore_zero c)))
  go q d c i := match q with | 0 => (inferInstance : BI.Storable (upEmb : UEmb _ 𝕄) (goP m sv d (Fin.cast nCore_zero c) (Fin.cast nSub_zero i)))
  td q d c i := match q with | 0 => (inferInstance : BI.Storable (upEmb : UEmb _ 𝕄) (tdP sv d (Fin.cast nCore_zero c) (Fin.cast nSub_zero i)))

/-! ## The call's split and join -/

/-- The scores at `q` are the share kept back and the tasks' shares. -/
theorem scores_toks (d : Dev nD) (q : PosShare TreeShare) (n : ℕ) (f : Buf (Elt F) (sLoc d)) :
    (sLoc d ↦{q} f : sProp 𝕄) ⊣⊢ iprop((sLoc d ↦{shareDrop q n} f) ∗ bigSep Finset.univ fun i : Fin n => sLoc d ↦{shareTokN q i.val} f) :=
  pointsTo_toks (ℓ := sLoc d) (S := Finset.univ) (f := f) q n

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore hands its sixteen tasks their shares and tokens, and has its own back when they are done. -/
theorem vecSplit : (K (F := F)).VecSplit' (P m sv) 0 := by
  intro d c
  show stP m sv d (Fin.cast nCore_zero c) ⊢ |={Set.univ}=> iprop(
      (bigSep Finset.univ fun i : Fin ((K (F := F)).nSub 0) => goP m sv d (Fin.cast nCore_zero c) (Fin.cast nSub_zero i))
      ∗ ((bigSep Finset.univ fun i : Fin ((K (F := F)).nSub 0) => tdP sv d (Fin.cast nCore_zero c) (Fin.cast nSub_zero i))
          -∗ dnP sv d (Fin.cast nCore_zero c)))
  rw [bigSep_tasks (F := F) (fun i => goP m sv d (Fin.cast nCore_zero c) i), bigSep_tasks (F := F) (fun i => tdP sv d (Fin.cast nCore_zero c) i)]
  generalize Fin.cast nCore_zero c = c
  unfold goP tdP stP dnP
  rw [bigSep_sep' Finset.univ (fun i : Fin 16 => sLoc d ↦{shT c.val i.val} sv d) fun i => outs₀ m d (tileSet c i),
    bigSep_sep' Finset.univ (fun i : Fin 16 => sLoc d ↦{shT c.val i.val} sv d) fun i => outs₁ sv d (tileSet c i)]
  unfold outs₀ outs₁ coreSet
  rw [outs_biUnion d (tileSet c) (tileSet_disjoint c), outs_biUnion d (tileSet c) (tileSet_disjoint c)]
  iintro ⟨Hs, Ho⟩
  ihave Hs' := (scores_toks d (shC c.val) 16 (sv d)).1 $$ Hs
  icases Hs' with ⟨Hkeep, Hs⟩
  imodintro
  isplitl [Hs Ho]
  · isplitl [Hs]; · iexact Hs
    iexact Ho
  iintro ⟨Hs, Ho⟩
  isplitl [Hkeep Hs]
  · iapply (scores_toks d (shC c.val) 16 (sv d)).2
    isplitl [Hkeep]; · iexact Hkeep
    iexact Hs
  iexact Ho

/-! ## One task, from the launch's own spelling of what a subcore has -/

section Task

variable (d : Dev nD) (L : grid1.Coords)

omit [FloatOps F] in
/-- A separating conjunction over a finite set, the members of an injective family taken out. -/
theorem bigSep_pick {J : Type} [DecidableEq J] {n : ℕ} (s : Finset J) (f : Fin n → J) (inj : Function.Injective f) (sub : ∀ i, f i ∈ s) (Φ : J → sProp 𝕄) :
    bigSep s Φ = iprop((bigSep Finset.univ fun i => Φ (f i)) ∗ bigSep (s \ Finset.univ.map ⟨f, inj⟩) Φ) := by
  rw [bigSep_sdiff_split (t := Finset.univ.map ⟨f, inj⟩) fun x hx => by obtain ⟨i, -, rfl⟩ := Finset.mem_map.mp hx; exact sub i, bigSep_map]
  rfl

/-- The semaphores that the task's twelve copies signal. -/
def copySem : Fin 12 → SemLoc sig
  | 0 => .dma cc1_scoped0.sem | 1 => .dma cc1_scoped1.sem | 2 => .dma cc1_scoped2.sem | 3 => .dma cc1_scoped3.sem
  | 4 => .dma cc1_scoped4.sem | 5 => .dma cc1_scoped5.sem | 6 => .dma cc1_scoped6.sem | 7 => .dma cc1_scoped7.sem
  | 8 => .dma cc1_scoped8.sem | 9 => .dma cc1_scoped9.sem | 10 => .dma cc1_scoped10.sem | 11 => .dma cc1_scoped11.sem

/-- The task's cells under those semaphores are distinct. -/
theorem copyCell_inj : Function.Injective fun i : Fin 12 => ((thr d L, copySem i) : GSem nD τ sig) :=
  fun _ _ h => (show Function.Injective copySem by decide) (Prod.ext_iff.mp h).2

omit [FloatOps F] in
/-- Among the subcore's semaphores at zero are those twelve. -/
theorem ownSems0_V :
    (ownSems0 (thr d L) : sProp 𝕄)
      = iprop((semVal (thr d L, SemLoc.dma cc1_scoped0.sem) 0 ∗ semVal (thr d L, SemLoc.dma cc1_scoped1.sem) 0 ∗ semVal (thr d L, SemLoc.dma cc1_scoped2.sem) 0
          ∗ semVal (thr d L, SemLoc.dma cc1_scoped3.sem) 0 ∗ semVal (thr d L, SemLoc.dma cc1_scoped4.sem) 0 ∗ semVal (thr d L, SemLoc.dma cc1_scoped5.sem) 0
          ∗ semVal (thr d L, SemLoc.dma cc1_scoped6.sem) 0 ∗ semVal (thr d L, SemLoc.dma cc1_scoped7.sem) 0 ∗ semVal (thr d L, SemLoc.dma cc1_scoped8.sem) 0
          ∗ semVal (thr d L, SemLoc.dma cc1_scoped9.sem) 0 ∗ semVal (thr d L, SemLoc.dma cc1_scoped10.sem) 0 ∗ semVal (thr d L, SemLoc.dma cc1_scoped11.sem) 0)
        ∗ bigSep (ownCells (thr d L) \ Finset.univ.map ⟨_, copyCell_inj d L⟩) fun g => semVal g 0) := by
  unfold SparseCore.Cfg.ownSems0
  rw [bigSep_pick _ _ (copyCell_inj d L) fun i => mem_ownCells.mpr ⟨rfl, (show ∀ i, (copySem i).isScoped .scVector = true by decide) i⟩]
  rw [bigSep_univ_eq_bigSepL [(0 : Fin 12), 1, 2, 3, 4, 5, 6, 7, 8, 9, 10, 11] (by decide) (by decide)]
  rfl

/-- The task's five scratch buffers. -/
def scratch : Fin 5 → Ref sig .scVector
  | 0 => cc1_scratch0 | 1 => cc1_scratch1 | 2 => cc1_scratch2 | 3 => cc1_scratch3 | 4 => cc1_scratch4

/-- They are distinct buffers of the subcore. -/
theorem scratch_inj : Function.Injective fun i : Fin 5 => (Proc.scVector (cV L) (jV L)).devRef (scratch i) :=
  fun _ _ h => (show Function.Injective scratch by decide) (Proc.devRef_injective _ h)

omit [FloatOps F] in
/-- The subcore's own buffers are the five scratches, each at some contents, and the rest. -/
theorem ownBufs_V :
    (ownBufs (thr d L) : sProp 𝕄)
      = iprop(((∃ f, s0.view.loc (thr d L) ↦{fullShare} f) ∗ (∃ f, s1.view.loc (thr d L) ↦{fullShare} f) ∗ (∃ f, s2.view.loc (thr d L) ↦{fullShare} f)
          ∗ (∃ f, s3.view.loc (thr d L) ↦{fullShare} f) ∗ (∃ f, s4.view.loc (thr d L) ↦{fullShare} f))
        ∗ bigSep (ownRefs (τ := τ) (.scVector (cV L) (jV L)) \ Finset.univ.map ⟨_, scratch_inj L⟩)
            fun b => iprop(∃ f, ((d, b) : Loc nD τ sig) ↦{fullShare} f)) := by
  unfold SparseCore.Cfg.ownBufs
  rw [bigSep_pick _ _ (scratch_inj L) fun i => SparseCore.Cfg.mem_ownRefs_of_owner (p := Proc.scVector (cV L) (jV L)) (b := (Proc.scVector (cV L) (jV L)).devRef (scratch i))
      (match i with | 0 => rfl | 1 => rfl | 2 => rfl | 3 => rfl | 4 => rfl)]
  rw [bigSep_univ_eq_bigSepL [(0 : Fin 5), 1, 2, 3, 4] (by decide) (by decide)]
  rfl

/-- A task on the subcore of grid point `(c, i)`: from its share of the scores and its tokens of the outputs to the answers. -/
theorem tile_body (hF : (K (F := F)).Facts) (c : Fin 2) (i : Fin 16) (O : CellTallies nD τ sig (HIx 1)) (W : Waits sig (HIx 1)) (hO : ∀ g, O g none = 0) :
    iprop(levAts (K (F := F)).L (K (F := F)).lev ∗ emp ∗ goP m sv d c i
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc1_topk_sc (F := F) (coordsV c i) xW (Memref.isWhole_whole _) aW (Memref.isWhole_whole _) bW (Memref.isWhole_whole _) cW (Memref.isWhole_whole _) dW (Memref.isWhole_whole _)
            s0 (Memref.isWhole_whole _) s1 (Memref.isWhole_whole _) s2 (Memref.isWhole_whole _) s3 (Memref.isWhole_whole _) s4 (Memref.isWhole_whole _)
            cc1_scoped0 cc1_scoped1 cc1_scoped2 cc1_scoped3 cc1_scoped4 cc1_scoped5 cc1_scoped6 cc1_scoped7 cc1_scoped8 cc1_scoped9 cc1_scoped10 cc1_scoped11)
          fun _ => iprop(tdP sv d c i ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') := by
  rw [(K (F := F)).scopedBufs_V hF d (cV (coordsV c i)) (jV (coordsV c i)), SparseCore.Cfg.scopedSems0_V (Val := Elt F) d (cV (coordsV c i)) (jV (coordsV c i)), ownSems0_V, ownBufs_V]
  iintro ⟨#Hlv, -, ⟨Hx, Ha, Hb, Hc, Hd⟩, ⟨⟨⟨%g0, H0⟩, ⟨%g1, H1⟩, ⟨%g2, H2⟩, ⟨%g3, H3⟩, ⟨%g4, H4⟩⟩, Hbufs⟩,
    ⟨⟨C0, C1, C2, C3, C4, C5, C6, C7, C8, C9, C10, C11⟩, Hsems⟩, HO⟩
  ihave Hmw := (show levAts (K (F := F)).L (K (F := F)).lev ⊢ Transfers.MayWaits (thr d (coordsV c i)) (default : HIx 1) O from
    (K (F := F)).mayWaits_none (thr := thr d (coordsV c i)) hO) $$ Hlv
  have hrun := task_run d (coordsV c i) (shT c.val i.val) (sv d) (m (aLoc d)) (m (bLoc d)) (m (cLoc d)) (m (eLoc d)) g0 g1 g2 g3 g4 O W
  rw [sliceA_set, sliceB_set, sliceC_set, sliceD_set] at hrun
  iapply (wp_wand_r frame (wpE (defs₀ (F := F)) 𝒱₀ (thr d (coordsV c i)) none) Set.univ)
  isplitl [Hmw Hx Ha Hb Hc Hd H0 H1 H2 H3 H4 C0 C1 C2 C3 C4 C5 C6 C7 C8 C9 C10 C11 HO]
  · iapply hrun
    isplitl [Hmw]; · iexact Hmw
    isplitl [Hx]; · iexact Hx
    isplitl [Ha]; · iexact Ha
    isplitl [Hb]; · iexact Hb
    isplitl [Hc]; · iexact Hc
    isplitl [Hd]; · iexact Hd
    isplitl [H0]; · iexact H0
    isplitl [H1]; · iexact H1
    isplitl [H2]; · iexact H2
    isplitl [H3]; · iexact H3
    isplitl [H4]; · iexact H4
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    iexact HO
  iintro %_ ⟨Hx, Ha, Hb, Hc, Hd, H0, H1, H2, H3, H4, C0, C1, C2, C3, C4, C5, C6, C7, C8, C9, C10, C11, %W', HO⟩
  isplitl [Hx Ha Hb Hc Hd]
  · isplitl [Hx]; · iexact Hx
    isplitl [Ha]; · iexact Ha
    isplitl [Hb]; · iexact Hb
    isplitl [Hc]; · iexact Hc
    iexact Hd
  isplitl [H0 H1 H2 H3 H4 Hbufs]
  · isplitr [Hbufs]
    · isplitl [H0]; · iexact H0
      isplitl [H1]; · iexact H1
      isplitl [H2]; · iexact H2
      isplitl [H3]; · iexact H3
      iexact H4
    iexact Hbufs
  isplitr [HO]
  · isplitr [Hsems]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      iexact C11
    iexact Hsems
  iexists W'; isplitr
  · ipureintro; intro p _
    rcases p.2 with _ | q
    · exact .inr (.inl rfl)
    · exact .inr (.inr (congrArg some (Subsingleton.elim q 0)))
  iexact HO

/-- What the call runs on a vector subcore. -/
theorem defs₀_vector (c : Fin τ.nSC) (s : Fin τ.nSub) :
    defs₀ (F := F) (.scVector c s) 1 ()
      = SparseCore.onTile hcore1 hsub1 (fun c s => cc1_topk_sc (coordsV c s)
          xW (Memref.isWhole_whole _) aW (Memref.isWhole_whole _) bW (Memref.isWhole_whole _) cW (Memref.isWhole_whole _) dW (Memref.isWhole_whole _)
          s0 (Memref.isWhole_whole _) s1 (Memref.isWhole_whole _) s2 (Memref.isWhole_whole _) s3 (Memref.isWhole_whole _) s4 (Memref.isWhole_whole _)
          cc1_scoped0 cc1_scoped1 cc1_scoped2 cc1_scoped3 cc1_scoped4 cc1_scoped5 cc1_scoped6 cc1_scoped7 cc1_scoped8 cc1_scoped9 cc1_scoped10 cc1_scoped11) ⟨⟩ c s := rfl

/-- Every task of the call runs. -/
theorem tileObl (hF : (K (F := F)).Facts) : (K (F := F)).TileObl (D (F := F)) 𝒱 (P m sv) v₀ 0 := by
  intro d c i O W hO _ _
  simp only [show (P m sv).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m sv d hF (Fin.cast nCore_zero c) (Fin.cast nSub_zero i) O W hO

end Task

end Cert.Proof.Router
-- ==== Proof.Body.lean ====
/-
  The TensorCore's part: one grid point computes the router scores of a block of 4096 tokens.

  `body_run` runs the kernel's body from its four staging buffers: the two inputs are as found, and each output's buffer
  holds the body's payload of the two inputs. `logitsT` and `scoresT` are the two result arrays put together from the
  eight points' blocks.
-/
module

public import proofs.«01_k».proof.Proof.Setup
public import Idealize.ShloMosaic.Lib.Pipeline.FrameBody
public import Idealize.ShloMosaic.Lib.Pipeline.Value
public import Idealize.ShloMosaic.Lib.ValueIdxCore

@[expose] public section

noncomputable section

namespace Cert.Proof.Router

open Cert.KernelIdeal Cert.KernelIdeal.Gen

open Idealize.ShloMosaic
open Idealize.ShloMosaic.TcCoe
open Idealize.ShloMosaic.SparseCore.Cfg (HIx)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The two result arrays -/

/-- The 4096 tokens of block `t`. -/
def tokens (x : S32768x1024.Idx → F .f32) (t : Fin 8) : S4096x1024.Idx → F .f32 := fun j =>
  x (ix2 ⟨4096 * t.val + (j 0).val, by have h : (j 0).val < 4096 := (j 0).isLt; show _ < 32768; omega⟩ (j 1))

/-- The block of token `n` and its place there. -/
def blockOf (n : Fin 32768) : Fin 8 := ⟨n.val / 4096, by omega⟩
def placeOf (n : Fin 32768) : Fin 4096 := ⟨n.val % 4096, Nat.mod_lt _ (by omega)⟩

/-- The logits of all tokens, one column per token, -/
def logitsT (x : S32768x1024.Idx → F .f32) (w : S8x1024.Idx → F .f32) : S8x32768.Idx → F .f32 := fun i =>
  k0_pay2 (F := F) (tokens x (blockOf (i 1))) w (ix2 (i 0) (placeOf (i 1)))
/-- and the scores. -/
def scoresT (x : S32768x1024.Idx → F .f32) (w : S8x1024.Idx → F .f32) : S8x32768.Idx → F .f32 := fun i =>
  k0_pay3 (F := F) (tokens x (blockOf (i 1))) w (ix2 (i 0) (placeOf (i 1)))

/-! ## The body -/

/-- A store through the whole-buffer rectangle leaves its payload, -/
theorem canon_whole {S : Shape} (o : Fin S.rank → ℕ) (ho : ∀ a, o a = 0) (inb : ∀ a, o a + S.size a ≤ S.size a)
    (w : S.Idx → F .f32) :
    View.canon (Val := Elt F) (e := .f32) [⟨Rect.unit (s := S) o S.size inb, w⟩] = w := by
  funext x
  have e : (Rect.unit (s := S) o S.size inb).emb x = x := by
    funext a
    apply Fin.ext
    rw [Rect.emb_apply]
    show o a + 1 * (x a).val = (x a).val
    rw [ho a]; omega
  exact (congrArg _ e.symm).trans (View.canon_cons_emb (Val := Elt F) (e := .f32) (Rect.unit (s := S) o S.size inb) w [] x)

/-- and a load through it reads the buffer. -/
theorem load_whole {S : Shape} {sp : Space} (v : View sig .tc sp S .f32) (f : v.ty.Contents (Elt F)) (o : Fin S.rank → ℕ)
    (ho : ∀ a, o a = 0) (inb : ∀ a, o a + S.size a ≤ S.size a) :
    v.readAt (Elt F) (Rect.unit (s := S) o S.size inb).toLoadRect f = v.read (Elt F) f := by
  funext x
  show v.read (Elt F) f _ = _
  congr 1
  funext a
  apply Fin.ext
  show o a + 1 * (x a).val = (x a).val
  rw [ho a]; omega

theorem zero_pair : ∀ a : Fin 2, (![0, 0] : Fin 2 → ℕ) a = 0 := by decide

set_option maxHeartbeats 1000000 in
/-- From the two inputs' buffers at `X` and `W` and the outputs' at anything, the body ends with the inputs as they were and
    the outputs at its two payloads. -/
theorem body_run (c : Dev nD) (t : grid0.Coords) (M0 : Memref sig .tc .vmem S4096x1024 .f32) (h0 : M0.IsWhole)
    (M1 : Memref sig .tc .vmem S8x1024 .f32) (h1 : M1.IsWhole) (M2 : Memref sig .tc .vmem S8x4096 .f32) (h2 : M2.IsWhole)
    (M3 : Memref sig .tc .vmem S8x4096 .f32) (h3 : M3.IsWhole)
    (X : S4096x1024.Idx → F .f32) (W : S8x1024.Idx → F .f32) (Y Z : S8x4096.Idx → F .f32) (Q : PUnit → sProp 𝕄) :
    (iprop(owns (c : Thread nD τ) M0 fullShare X ∗ owns (c : Thread nD τ) M1 fullShare W
        ∗ owns (c : Thread nD τ) M2 fullShare Y ∗ owns (c : Thread nD τ) M3 fullShare Z
        ∗ (iprop(owns (c : Thread nD τ) M0 fullShare X ∗ owns (c : Thread nD τ) M1 fullShare W
            ∗ owns (c : Thread nD τ) M2 fullShare (k0_pay2 (F := F) X W) ∗ owns (c : Thread nD τ) M3 fullShare (k0_pay3 (F := F) X W)) -∗ Q ⟨⟩)) : sProp 𝕄)
      ⊢ wp frame (wpE (defs₀ (F := F)) 𝒱₀ c none) Set.univ (cc0__router_tc_body t M0 h0 M1 h1 M2 h2 M3 h3) Q := by
  rw [cc0__router_tc_body_eq_skeleton]
  unfold cc0__router_tc_body_skel owns
  rw [h0.set_eq_univ, h1.set_eq_univ, h2.set_eq_univ, h3.set_eq_univ]
  iintro ⟨⟨%f0, %e0, H0⟩, ⟨%f1, %e1, H1⟩, ⟨%f2, -, H2⟩, ⟨%f3, -, H3⟩, Hk⟩
  sl_exec!
  sl_step
  iapply Hk
  isplitl [H0]
  · iexists f0; isplitr; · ipureintro; exact e0
    iexact H0
  isplitl [H1]
  · iexists f1; isplitr; · ipureintro; exact e1
    iexact H1
  isplitl [H2]
  · iexists _; isplitr; swap; · iexact H2
    ipureintro
    rw [View.read_writes_junk_eq_canon]
    unfold body_run.sl.H2_1
    rw [load_whole (F := F) _ _ _ zero_pair, load_whole (F := F) _ _ _ zero_pair, e0, e1]
    exact canon_whole (F := F) _ zero_pair _ _
  · iexists _; isplitr; swap; · iexact H3
    ipureintro
    rw [View.read_writes_junk_eq_canon]
    unfold body_run.sl.H3_1
    rw [load_whole (F := F) _ _ _ zero_pair, load_whole (F := F) _ _ _ zero_pair, e0, e1]
    exact canon_whole (F := F) _ zero_pair _ _

end Cert.Proof.Router
-- ==== Proof.Region.lean ====
/-
  The TensorCore's call as one step of `@main`: entered with every array outside the kernels' scratch at a valuation, left
  with the two result arrays at `logitsT` and `scoresT` and everything else as it was.

  Throughout, the TensorCore owes the SparseCores their start signals: the call's own waits may be made while owing them,
  and the record of waits stays low enough for the signals afterwards.
-/
module

public import proofs.«01_k».proof.Proof.Body
public import Idealize.ShloMosaic.Lib.Pipeline.ValueKit.Geometry
public import Idealize.ShloMosaic.Lib.Pipeline.RegionsLoop

@[expose] public section

noncomputable section

namespace Cert.Proof.Router

open Cert.KernelIdeal Cert.KernelIdeal.Gen

open Idealize.ShloMosaic
open Idealize.ShloMosaic.TcCoe
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Tactic

variable {F : FTy → Type} [FloatOps F]

local notation "𝕄" => MT nD τ sig (HIx 1) (Elt F) ℕ UU ℕ

/-- A valuation of the TensorCore's buffers, per device. -/
abbrev Vals (F : FTy → Type) : Type := (c : Dev nD) → (b : Ref sig .tc) → Buf (Elt F) ((c : Thread nD τ).loc b)

variable (V : Vals F)

/-! ## The proof data -/

/-- What the fetches stage at point `t`: a block of the tokens, -/
abbrev inX (c : Dev nD) (t : Fin cfg0.N) : S4096x1024.Idx → F .f32 := ((cfg0.win 0).blk t).view.read (Elt F) (V c main_v0)
/-- and the weights. -/
abbrev inW (c : Dev nD) (t : Fin cfg0.N) : S8x1024.Idx → F .f32 := ((cfg0.win 1).blk t).view.read (Elt F) (V c main_arg1)

/-- The call's proof data: the arrays at `V`; after each point the inputs' buffers as staged and the outputs' at the body's
    payloads; the start signals owed throughout. -/
def dat (c : Dev nD) : Dat τ (Elt F) (HIx 1) ℕ UU ℕ cfg0 c where
  A w := V c (Pipeline.arrRef spec0 w)
  after w t := match w with
    | ⟨0, _⟩ => inX V c t
    | ⟨1, _⟩ => inW V c t
    | ⟨2, _⟩ => k0_pay2 (F := F) (inX V c t) (inW V c t)
    | ⟨3, _⟩ => k0_pay3 (F := F) (inX V c t) (inW V c t)
    | ⟨_ + 4, h⟩ => absurd h (Nat.not_lt.2 (Nat.le_add_left _ _))
  Φ _ := Pipeline.scopedRest (Ix := HIx 1) (Name := ℕ) (U := UU) (Lvl := ℕ) (Val := Elt F) spec0 c
  q _ := fullShare
  owed _ := (K (F := F)).Otc c 0
  recorded _ := {p | (K (F := F)).lev ((SparseCore.T c : Thread nD τ), p.1) p.2 ≤ 0}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c
  | ⟨_ + 1, h⟩ => absurd h (Nat.not_lt.2 (Nat.le_add_left _ _))

/-- The inputs' buffers hold their blocks when the body runs, fetched at that point or before. -/
theorem before_0 (c : Dev nD) (t : Fin cfg0.N) (d : (cfg0.win 0).block.Idx → Elt F (cfg0.win 0).elt) :
    (dat V c).before 0 t d = inX V c t :=
  (dat V c).before_in_eq_fetched 0 rfl (fun _ => rfl) (fun _ _ _ => rfl) (fun _ => rfl) t d
theorem before_1 (c : Dev nD) (t : Fin cfg0.N) (d : (cfg0.win 1).block.Idx → Elt F (cfg0.win 1).elt) :
    (dat V c).before 1 t d = inW V c t :=
  (dat V c).before_in_eq_fetched 1 rfl (fun _ => rfl) (fun _ _ _ => rfl) (fun _ => rfl) t d

/-- The body at every grid point. -/
theorem body_obligation (c : Dev nD) : BodyObligation (dat V c) (defs₀ (F := F)) 𝒱₀ (none : HIx 1) Set.univ := fun t => by
  rw [bigSep_W0, bigSep_W0]
  rw [show (dat V c).Φ t.succ = (dat V c).Φ t.castSucc from rfl,
    show (dat V c).owesAt (none : HIx 1) t.succ = (dat V c).owesAt (none : HIx 1) t.castSucc from rfl]
  iintro ⟨HΦ, Howes, ⟨%d0, H0⟩, ⟨%d1, H1⟩, ⟨%d2, H2⟩, ⟨%d3, H3⟩⟩
  rw [before_0, before_1]
  iapply (body_run c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (inX V c t) (inW V c t) _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The start signals are owed at no index of the call's own waits. -/
theorem owed_none (d : Dev nD) (g : GSem nD τ sig) : (K (F := F)).Otc d 0 g (none : HIx 1) = 0 := by
  rcases Nat.eq_zero_or_pos ((K (F := F)).Otc d 0 g (none : HIx 1)) with h | h
  · exact h
  · have := SparseCore.Cfg.lev_of_Otc_pos (K := K (F := F)) h
    rw [SparseCore.Cfg.lev_none] at this
    omega

/-! ## The two result arrays after the eight points -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)

theorem inX_eq (c : Dev nD) (t : Fin cfg0.N) : inX V c t = tokens (V c main_v0) (t.cast N_0) := by
  funext j
  show V c main_v0 ((win0_0.blk t).view.emb j) = V c main_v0 _
  congr 1
  have ht : (t.cast N_0).val = t.val := rfl
  generalize t.cast N_0 = u at ht
  blk_ext [index0]

theorem inW_eq (c : Dev nD) (t : Fin cfg0.N) : inW V c t = V c main_arg1 := by
  funext j
  show V c main_arg1 ((win0_1.blk t).view.emb j) = V c main_arg1 _
  congr 1
  blk_ext [index1]

/-- A block's place in a result array: column `y` of block `t` is token `4096 t + y`. -/
theorem place (t : Fin 8) (y : S8x4096.Idx) (i : S8x32768.Idx) (h0 : (i 0).val = (y 0).val) (h1 : (i 1).val = t.val * 4096 + (y 1).val) :
    blockOf (i 1) = t ∧ ix2 (i 0) (placeOf (i 1)) = (y : S8x4096.Idx) := by
  have hy : (y 1).val < 4096 := (y 1).isLt
  refine ⟨Fin.ext ?_, ?_⟩
  · show (i 1).val / 4096 = t.val
    rw [h1]; omega
  · funext a
    match a with
    | ⟨0, _⟩ => exact Fin.ext h0
    | ⟨1, _⟩ => exact Fin.ext (show (i 1).val % 4096 = (y 1).val by rw [h1]; omega)

/-- The result arrays read there are the body's payloads of that block. -/
theorem logitsT_at (x : S32768x1024.Idx → F .f32) (w : S8x1024.Idx → F .f32) (t : Fin 8) (y : S8x4096.Idx) (i : S8x32768.Idx)
    (h0 : (i 0).val = (y 0).val) (h1 : (i 1).val = t.val * 4096 + (y 1).val) :
    k0_pay2 (F := F) (tokens x t) w y = logitsT (F := F) x w i := by
  obtain ⟨hb, hp⟩ := place t y i h0 h1
  unfold logitsT
  rw [hb]
  exact congrArg (k0_pay2 (F := F) (tokens x t) w) hp.symm
theorem scoresT_at (x : S32768x1024.Idx → F .f32) (w : S8x1024.Idx → F .f32) (t : Fin 8) (y : S8x4096.Idx) (i : S8x32768.Idx)
    (h0 : (i 0).val = (y 0).val) (h1 : (i 1).val = t.val * 4096 + (y 1).val) :
    k0_pay3 (F := F) (tokens x t) w y = scoresT (F := F) x w i := by
  obtain ⟨hb, hp⟩ := place t y i h0 h1
  unfold scoresT
  rw [hb]
  exact congrArg (k0_pay3 (F := F) (tokens x t) w) hp.symm

theorem logits_final (c : Dev nD) : (dat V c).arrAt 2 cfg0.N = logitsT (F := F) (V c main_v0) (V c main_arg1) := by
  refine (dat V c).arrAt_eq_of_covers 2 _ (by decide +kernel) fun t _ y => ?_
  show k0_pay2 (F := F) (inX V c t) (inW V c t) y = logitsT (F := F) (V c main_v0) (V c main_arg1) ((win0_2.blk t).view.emb y)
  rw [inX_eq, inW_eq]
  exact logitsT_at _ _ (t.cast N_0) y _ (by blk_simp [index2]) (by blk_simp [index2]; rfl)

theorem scores_final (c : Dev nD) : (dat V c).arrAt 3 cfg0.N = scoresT (F := F) (V c main_v0) (V c main_arg1) := by
  refine (dat V c).arrAt_eq_of_covers 3 _ (by decide +kernel) fun t _ y => ?_
  show k0_pay3 (F := F) (inX V c t) (inW V c t) y = scoresT (F := F) (V c main_v0) (V c main_arg1) ((win0_3.blk t).view.emb y)
  rw [inX_eq, inW_eq]
  exact scoresT_at _ _ (t.cast N_0) y _ (by blk_simp [index3]) (by blk_simp [index3]; rfl)

/-! ## The call as one step -/

/-- What the TensorCore owes, with its record of waits low enough for the start signals. -/
def owing (d : Dev nD) : sProp 𝕄 :=
  iprop(∃ W, ⌜(K (F := F)).WBelow (SparseCore.T d) W 0⌝ ∗ owes (SparseCore.T d : Thread nD τ) ((K (F := F)).Otc d 0) W)

variable (V' : Vals F)

set_option backward.isDefEq.respectTransparency.types false in
/-- The call over the arrays: entered at `V`, left at any `V'` that has the two results and agrees with `V` elsewhere. -/
def region (h2 : ∀ c, V' c main_v1_0 = logitsT (F := F) (V c main_v0) (V c main_arg1))
    (h3 : ∀ c, V' c main_v1_1 = scoresT (F := F) (V c main_v0) (V c main_arg1))
    (hne : ∀ c (b : Ref sig .tc), b ≠ main_v1_0 → b ≠ main_v1_1 → V' c b = V c b) :
    Pipeline.RegionSeg (pcfgs (F := F)) adm (pdats V adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t =>
    (K (F := F)).mayWait_none _ (owed_none c)
  pre c := iprop(unscopedBufs c (V c) ∗ owing c)
  post c := iprop(unscopedBufs c (V' c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    unfold owing
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (V' c) ((pdats V adm 0 c).arrAt · cfg0.N)
      (fun w => by
        fin_cases w
        · exact ((pdats V adm 0 c).arrAt_in 0 rfl _).trans (hne c main_v0 (by decide) (by decide)).symm
        · exact ((pdats V adm 0 c).arrAt_in 1 rfl _).trans (hne c main_arg1 (by decide) (by decide)).symm
        · exact (logits_final V c).trans (h2 c).symm
        · exact (scores_final V c).trans (h3 c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin owing
    icases HO with ⟨%W, %hW, HO⟩
    iexists W
    isplitr
    · ipureintro
      intro p hp
      rcases hW hp with h | ⟨w, s, h⟩
      · exact h
      · rw [h, SparseCore.Cfg.lev_none]
    iexact HO

end Cert.Proof.Router
-- ==== Proof.Main.lean ====
/-
  `@main` and the whole run: the reshape, the TensorCore's call, the SparseCores' call, and the eight host operations
  that lay out the four results. Every array outside the kernels' scratch is followed as one valuation from step to step,
  so the run's last valuation says what every array holds at the end.
-/
module

public import proofs.«01_k».proof.Proof.Tasks
public import proofs.«01_k».proof.Proof.Region

@[expose] public section

noncomputable section

namespace Cert.Proof.Router

open Cert.KernelIdeal Cert.KernelIdeal.Gen

open Idealize.ShloMosaic
open Idealize.ShloMosaic.TcCoe
open Idealize.ShloMosaic.SparseCore.Cfg (HIx Pay)
open Idealize.ShloMosaic.ValueIdx
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

variable (m : (ℓ : Loc nD τ sig) → Buf (Elt F) ℓ)

/-! ## The arrays, step by step -/

/-- The TensorCore's arrays outside the kernels' scratch. -/
def arrays : Finset (DevRef τ sig) := (StableHlo.tcRefs τ sig).filter fun b => ¬ b.isScoped

/-- The first host operation: the tokens flattened to one row each. -/
abbrev flatten : HloOp τ sig (Elt F) :=
  StableHlo.reshape main_arg0 main_v0 (rfl : (.f32 : EltTy) = .f32) shapeCasts_S4x8192x1024_S32768x1024

/-- One of the scan's answers as a column. -/
abbrev column {e : EltTy} : (⟨S32768, e⟩ : BufTy).Contents (Elt F) → (⟨S32768x1, e⟩ : BufTy).Contents (Elt F) :=
  broadcastInDim S32768x1 ![0] bcast_S32768_S32768x1_0
/-- Two columns side by side. -/
abbrev sideBySide {e : EltTy} (a b : (⟨S32768x1, e⟩ : BufTy).Contents (Elt F)) : (⟨S32768x2, e⟩ : BufTy).Contents (Elt F) :=
  concatenate S32768x2 1 [⟨S32768x1, a⟩, ⟨S32768x1, b⟩] concatenates_S32768x1_S32768x1_S32768x2_d1
/-- Experts along the rows to tokens along the rows. -/
abbrev turned (a : (⟨S8x32768, .f32⟩ : BufTy).Contents (Elt F)) : (⟨S32768x8, .f32⟩ : BufTy).Contents (Elt F) :=
  transpose S32768x8 [1, 0] a transposes_S8x32768_S32768x8_1_0

/-- The last eight host operations. -/
abbrev layout : List (HloOp τ sig (Elt F)) :=
  [StableHlo.unary main_v2_0 main_v3 (column (F := F)), StableHlo.unary main_v2_1 main_v4 (column (F := F)),
    StableHlo.binary main_v3 main_v4 main_v5 (sideBySide (F := F)),
    StableHlo.unary main_v2_2 main_v6 (column (F := F)), StableHlo.unary main_v2_3 main_v7 (column (F := F)),
    StableHlo.binary main_v6 main_v7 main_v8 (sideBySide (F := F)),
    StableHlo.unary main_v1_1 main_v9 (turned (F := F)), StableHlo.unary main_v1_0 main_v10 (turned (F := F))]

/-- The program, its host operations gathered. -/
theorem main_eq (d : Dev nD) : main (F := F) d =
    (hlo rfl (flatten (F := F)) (fun _ => .ret (⟨⟩ : PUnit)) >>= fun _ => Prog.lift (.customCall (SparseCore.inner (Pipeline.entry 0)) ()) >>= fun _ =>
      (K (F := F)).run d 0 >>= fun _ => seq (layout (F := F))) := rfl

/-- The arrays as the launch finds them, -/
def W0 (d : Dev nD) : Valuation τ sig (Elt F) := fun b => m (d, b)
/-- after the tokens are flattened, -/
def W1 (d : Dev nD) : Valuation τ sig (Elt F) := (flatten (F := F)).result (W0 m d)
/-- the flattened tokens and the weights, -/
def xs (d : Dev nD) : S32768x1024.Idx → F .f32 := W1 m d (Proc.devRef .tc main_v0)
def ws (d : Dev nD) : S8x1024.Idx → F .f32 := W1 m d (Proc.devRef .tc main_arg1)
/-- the scores the TensorCore's call leaves, -/
def sc₁ (d : Dev nD) : Buf (Elt F) (sLoc d) := scoresT (F := F) (xs m d) (ws m d)
/-- after the TensorCore's call, -/
def W2 (d : Dev nD) : Valuation τ sig (Elt F) :=
  Function.update (Function.update (W1 m d) (Proc.devRef .tc main_v1_0) (logitsT (F := F) (xs m d) (ws m d)))
    (Proc.devRef .tc main_v1_1) (sc₁ m d)
/-- after the SparseCores' call, -/
def W3 (d : Dev nD) : Valuation τ sig (Elt F) :=
  Function.update (Function.update (Function.update (Function.update (W2 m d)
    (Proc.devRef .tc main_v2_0) (outM1 (F := F) (sc₁ m d))) (Proc.devRef .tc main_v2_1) (outM2 (F := F) (sc₁ m d)))
    (Proc.devRef .tc main_v2_2) (outI1 (F := F) (sc₁ m d))) (Proc.devRef .tc main_v2_3) (outI2 (F := F) (sc₁ m d))
/-- and at the end. -/
def W4 (d : Dev nD) : Valuation τ sig (Elt F) := after (layout (F := F)) (W3 m d)

omit [FloatOps F] in
theorem arrays_held (c : Dev nD) (W : Valuation τ sig (Elt F)) :
    (unscopedBufs c (fun b => W (Proc.devRef .tc b)) : sProp 𝕄) = held (c : Thread nD τ) arrays W := by
  unfold unscopedBufs held arrays StableHlo.tcRefs
  rw [Finset.filter_map, bigSep_map]
  rfl

omit [FloatOps F] in
theorem mem_arrays (b : Ref sig .tc) (h : b.isScoped = false) : Proc.devRef (τ := τ) .tc b ∈ arrays := by
  refine Finset.mem_filter.mpr ⟨StableHlo.devRef_mem_tcRefs b, ?_⟩
  rw [show (Proc.devRef (τ := τ) .tc b).isScoped = b.isScoped from rfl, h]; decide

/-- Every buffer of the last operations is one of the arrays. -/
theorem layout_bufs : ∀ op ∈ layout (F := F), op.bufs ⊆ arrays := by
  intro op hop b hb
  refine Finset.mem_filter.mpr ⟨?_, fun h => Bool.noConfusion ((op.no_scoped b hb).symm.trans h)⟩
  have pair : ∀ x y : Ref sig .tc, b ∈ ({Proc.devRef .tc x, Proc.devRef .tc y} : Finset (DevRef τ sig)) → b ∈ StableHlo.tcRefs τ sig := fun x y h => by
    rcases Finset.mem_insert.mp h with rfl | h
    · exact StableHlo.devRef_mem_tcRefs x
    · cases Finset.mem_singleton.mp h; exact StableHlo.devRef_mem_tcRefs y
  have triple : ∀ x y z : Ref sig .tc, b ∈ ({Proc.devRef .tc x, Proc.devRef .tc y, Proc.devRef .tc z} : Finset (DevRef τ sig)) → b ∈ StableHlo.tcRefs τ sig :=
    fun x y z h => by
      rcases Finset.mem_insert.mp h with rfl | h
      · exact StableHlo.devRef_mem_tcRefs x
      · exact pair y z h
  fin_cases hop
  · exact pair _ _ hb
  · exact pair _ _ hb
  · exact triple _ _ _ hb
  · exact pair _ _ hb
  · exact pair _ _ hb
  · exact triple _ _ _ hb
  · exact pair _ _ hb
  · exact pair _ _ hb
theorem layout_fresh : ∀ op ∈ layout (F := F), op.fresh = ∅ := by
  intro op hop
  fin_cases hop <;> rfl

theorem flatten_bufs : (flatten (F := F)).bufs ⊆ arrays := by
  intro b hb
  rcases Finset.mem_insert.mp hb with rfl | h
  · exact mem_arrays main_arg0 rfl
  · cases Finset.mem_singleton.mp h; exact mem_arrays main_v0 rfl

/-! ## The TensorCore's call -/

theorem W2_logits (d : Dev nD) : W2 m d (Proc.devRef .tc main_v1_0) = logitsT (F := F) (xs m d) (ws m d) := by
  unfold W2
  rw [Function.update_of_ne (StableHlo.devRef_ne_of_ne (by decide)), Function.update_self]
theorem W2_scores (d : Dev nD) : W2 m d (Proc.devRef .tc main_v1_1) = sc₁ m d := by
  unfold W2
  rw [Function.update_self]
theorem W2_ne (d : Dev nD) (b : Ref sig .tc) (h0 : b ≠ main_v1_0) (h1 : b ≠ main_v1_1) :
    W2 m d (Proc.devRef .tc b) = W1 m d (Proc.devRef .tc b) := by
  unfold W2
  rw [Function.update_of_ne (StableHlo.devRef_ne_of_ne h1), Function.update_of_ne (StableHlo.devRef_ne_of_ne h0)]
theorem W1_ne (d : Dev nD) (b : Ref sig .tc) (h : b ≠ main_v0) : W1 m d (Proc.devRef .tc b) = m (d, Proc.devRef .tc b) := by
  unfold W1
  rw [StableHlo.reshape_result_ne _ _ _ _ _ _ _ h]
  rfl

/-- No call has tables of its own to admit. -/
abbrev adm : (p : Fin 1) → (pcfgs (F := F) p).Adm := fun p => (cfgs p).toPCfg_adm

/-- The call as a step of the valuations. -/
def call : Pipeline.RegionSeg (pcfgs (F := F)) adm (pdats (fun c b => W1 m c (Proc.devRef .tc b)) adm) (none : HIx 1) defs₀ 𝒱₀ (K (F := F)).L (K (F := F)).lev 0 :=
  region (fun c b => W1 m c (Proc.devRef .tc b)) adm (fun c b => W2 m c (Proc.devRef .tc b))
    (fun c => W2_logits m c) (fun c => W2_scores m c) (fun c b h0 h1 => W2_ne m c b h0 h1)

theorem call_pre (d : Dev nD) : (call m).pre d = iprop(held (d : Thread nD τ) arrays (W1 m d) ∗ owing d) := by
  rw [← arrays_held]; rfl
theorem call_post (d : Dev nD) : (call m).post d = iprop(held (d : Thread nD τ) arrays (W2 m d) ∗ owing d) := by
  rw [← arrays_held]; rfl

/-- What the launch deals a TensorCore for its call's staging buffers. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

set_option backward.isDefEq.respectTransparency.types false in
theorem wp_call [∀ e, Nonempty (Elt F e)] (d : Dev nD) (Φ : PUnit → sProp 𝕄) :
    iprop((iprop(boundary (d : Thread nD τ) ∗ held (d : Thread nD τ) arrays (W2 m d) ∗ owing d) -∗ Φ ⟨⟩)
        ∗ boundary (d : Thread nD τ) ∗ held (d : Thread nD τ) arrays (W1 m d) ∗ owing d ∗ levAts (K (F := F)).L (K (F := F)).lev ∗ ghost d)
      ⊢ wp frame (wpE ((K (F := F)).defs (D (F := F))) 𝒱 (SparseCore.T d) none) Set.univ (Prog.lift (.customCall (SparseCore.inner (Pipeline.entry 0)) ())) Φ := by
  have h := Pipeline.RegionSeg.wp (pcfgs (F := F)) adm (pdats (fun c b => W1 m c (Proc.devRef .tc b)) adm) (none : HIx 1) cellOf_inj EP defs₀ 𝒱₀
    (K (F := F)).L (K (F := F)).lev (call m) d none (fun _ h => nomatch h) (fun x => .ret x) Φ
  refine BI.Entails.trans ?_ (h.trans ((K (F := F)).wp_liftProg (D (F := F)) 𝒱 (SparseCore.T d) Set.univ none _ Φ))
  rw [call_pre, call_post]
  change (_ : sProp 𝕄) ⊢ _
  iintro ⟨Hk, Hb, Hh, HO, Hlev, Hg⟩
  isplitl [Hk]
  · iintro ⟨Hb, Hpost⟩
    rw [wp_ret]; imodintro
    iapply Hk
    isplitl [Hb]; · iexact Hb
    iexact Hpost
  isplitl [Hb]; · iexact Hb
  isplitl [Hh HO]
  · isplitl [Hh] <;> iassumption
  isplitl [Hlev]; · iexact Hlev
  iexact Hg

/-! ## The SparseCores' call -/

/-- The scores and the four arrays of answers. -/
def five : Finset (DevRef τ sig) :=
  {Proc.devRef .tc main_v1_1, Proc.devRef .tc main_v2_0, Proc.devRef .tc main_v2_1, Proc.devRef .tc main_v2_2, Proc.devRef .tc main_v2_3}

theorem five_sub : five ⊆ arrays := by
  intro b hb
  simp only [five, Finset.mem_insert, Finset.mem_singleton] at hb
  rcases hb with rfl | rfl | rfl | rfl | rfl <;> exact mem_arrays _ rfl

omit [FloatOps F] in
theorem held_five (d : Dev nD) (W : Valuation τ sig (Elt F)) :
    (held (d : Thread nD τ) five W : sProp 𝕄)
      = iprop((sLoc d ↦{fullShare} W (Proc.devRef .tc main_v1_1))
          ∗ outs d Finset.univ (W (Proc.devRef .tc main_v2_0)) (W (Proc.devRef .tc main_v2_1)) (W (Proc.devRef .tc main_v2_2)) (W (Proc.devRef .tc main_v2_3))) := by
  unfold held five outs
  rw [SparseCore.bigSep_insert' (by decide), SparseCore.bigSep_insert' (by decide), SparseCore.bigSep_insert' (by decide),
    SparseCore.bigSep_insert' (by decide), bigSep_singleton]

theorem W3_self (d : Dev nD) :
    W3 m d (Proc.devRef .tc main_v1_1) = sc₁ m d ∧ W3 m d (Proc.devRef .tc main_v2_0) = outM1 (F := F) (sc₁ m d)
      ∧ W3 m d (Proc.devRef .tc main_v2_1) = outM2 (F := F) (sc₁ m d) ∧ W3 m d (Proc.devRef .tc main_v2_2) = outI1 (F := F) (sc₁ m d)
      ∧ W3 m d (Proc.devRef .tc main_v2_3) = outI2 (F := F) (sc₁ m d) := by
  have ne : ∀ {a b : Ref sig .tc}, a ≠ b → Proc.devRef (τ := τ) .tc a ≠ Proc.devRef .tc b := fun h => StableHlo.devRef_ne_of_ne h
  unfold W3
  refine ⟨?_, ?_, ?_, ?_, ?_⟩
  · rw [Function.update_of_ne (ne (by decide)), Function.update_of_ne (ne (by decide)), Function.update_of_ne (ne (by decide)), Function.update_of_ne (ne (by decide)), W2_scores]
  · rw [Function.update_of_ne (ne (by decide)), Function.update_of_ne (ne (by decide)), Function.update_of_ne (ne (by decide)), Function.update_self]
  · rw [Function.update_of_ne (ne (by decide)), Function.update_of_ne (ne (by decide)), Function.update_self]
  · rw [Function.update_of_ne (ne (by decide)), Function.update_self]
  · rw [Function.update_self]
theorem W3_ne (d : Dev nD) (b : DevRef τ sig) (hb : b ∉ five) : W3 m d b = W2 m d b := by
  simp only [five, Finset.mem_insert, Finset.mem_singleton, not_or] at hb
  obtain ⟨-, h0, h1, h2, h3⟩ := hb
  unfold W3
  rw [Function.update_of_ne h3, Function.update_of_ne h2, Function.update_of_ne h1, Function.update_of_ne h0]

/-- The arrays before the call are the SparseCores' share of them, the scores' share kept back, and the rest; -/
theorem give (d : Dev nD) :
    (held (d : Thread nD τ) arrays (W2 m d) : sProp 𝕄) ⊢ iprop((bigSep Finset.univ fun c : Fin ((K (F := F)).nCore 0) => (P m (sc₁ m)).st 0 d c)
        ∗ (sLoc d ↦{shareDrop fullShare 2} sc₁ m d) ∗ held (d : Thread nD τ) (arrays \ five) (W2 m d)) := by
  have h : ∀ b : Ref sig .tc, b ≠ main_v1_0 → b ≠ main_v1_1 → b ≠ main_v0 → W2 m d (Proc.devRef .tc b) = m (d, Proc.devRef .tc b) := fun b h0 h1 h2 =>
    (W2_ne m d b h0 h1).trans (W1_ne m d b h2)
  rw [StableHlo.held_sub_split (d : Thread nD τ) five_sub, held_five, W2_scores, h _ (by decide) (by decide) (by decide), h _ (by decide) (by decide) (by decide),
    h _ (by decide) (by decide) (by decide), h _ (by decide) (by decide) (by decide),
    show (bigSep Finset.univ fun c : Fin ((K (F := F)).nCore 0) => (P m (sc₁ m)).st 0 d c) = bigSep Finset.univ fun c : Fin 2 => stP m (sc₁ m) d c from
      bigSep_cores (fun c => stP m (sc₁ m) d c),
    bigSep_sep' Finset.univ (fun c : Fin 2 => (sLoc d ↦{shC c.val} sc₁ m d : sProp 𝕄)) (fun c => outs₀ m d (coreSet c)), ← outs_biUnion d coreSet coreSet_disjoint, coreSet_cover]
  iintro ⟨⟨Hs, Ho⟩, Hr⟩
  ihave H := ((scores_toks d fullShare 2 (sc₁ m d)).1) $$ Hs
  icases H with ⟨Hd, Ht⟩
  isplitl [Ht Ho]
  · isplitl [Ht]; · iexact Ht
    iexact Ho
  isplitl [Hd] <;> iassumption

/-- and what comes back joins with the rest to the arrays after it. -/
theorem take (d : Dev nD) :
    iprop((bigSep Finset.univ fun c : Fin ((K (F := F)).nCore 0) => (P m (sc₁ m)).dn 0 d c)
        ∗ (sLoc d ↦{shareDrop fullShare 2} sc₁ m d) ∗ held (d : Thread nD τ) (arrays \ five) (W2 m d)) ⊢ (held (d : Thread nD τ) arrays (W3 m d) : sProp 𝕄) := by
  obtain ⟨e0, e1, e2, e3, e4⟩ := W3_self m d
  rw [StableHlo.held_sub_split (d : Thread nD τ) five_sub, held_five, e0, e1, e2, e3, e4,
    show (bigSep Finset.univ fun c : Fin ((K (F := F)).nCore 0) => (P m (sc₁ m)).dn 0 d c) = bigSep Finset.univ fun c : Fin 2 => dnP (sc₁ m) d c from
      bigSep_cores (fun c => dnP (sc₁ m) d c),
    bigSep_sep' Finset.univ (fun c : Fin 2 => (sLoc d ↦{shC c.val} sc₁ m d : sProp 𝕄)) (fun c => outs₁ (sc₁ m) d (coreSet c)), ← outs_biUnion d coreSet coreSet_disjoint, coreSet_cover,
    StableHlo.held_congr (d : Thread nD τ) (S := arrays \ five) (V := W3 m d) (V' := W2 m d) fun b hb => W3_ne m d b (Finset.mem_sdiff.mp hb).2]
  iintro ⟨⟨Ht, Ho⟩, Hd, Hr⟩
  isplitr [Hr]
  · isplitr [Ho]
    · iapply ((scores_toks d fullShare 2 (sc₁ m d)).2)
      isplitl [Hd] <;> iassumption
    iexact Ho
  iexact Hr

/-! ## `@main` -/

variable (ρ : Dev nD → PrngReg)

/-- Every array at the run's last valuation. -/
abbrev FIN (d : Dev nD) : sProp 𝕄 := held (d : Thread nD τ) arrays (W4 m d)

/-- The TensorCore's handshake state before the first call is what it owes and the rest, to be put back. -/
theorem tcSt_owing (d : Dev nD) : ((K (F := F)).tcSt EH d 0 : sProp 𝕄) ⊢ iprop(owing d ∗ (owing d -∗ (K (F := F)).tcSt EH d 0)) := by
  unfold SparseCore.Cfg.tcSt owing
  iintro ⟨HO, Hr⟩
  isplitl [HO]; · iexact HO
  iintro HO
  isplitl [HO]; · iexact HO
  iexact Hr

theorem hmain [∀ e, Nonempty (Elt F e)] (κ : GSem nD τ sig → ℕ) (d : Dev nD) :
    iprop((K (F := F)).ctx EH (P m (sc₁ m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d : Thread nD τ).loc b) : sProp 𝕄) = held (d : Thread nD τ) arrays (W0 m d) from arrays_held d (W0 m d),
    main_eq, wp_bind]
  iintro ⟨#Hctx, Hst, ⟨Hb, Hh, Hts, -⟩, Hg⟩
  iapply (StableHlo.wp_hlo_within 𝒱 (d : Thread nD τ) none Set.univ (flatten_bufs (F := F)) (V := W0 m d)) $$ [Hb Hh]
  · isplitl [Hb] <;> iassumption
  iintro ⟨Hb, Hh⟩
  rw [wp_ret]; imodintro
  ihave Hst := (tcSt_owing d) $$ Hst
  icases Hst with ⟨HO, Hback⟩
  ihave #Hlev := (SparseCore.Cfg.ctx_levAts κ) $$ Hctx
  rw [wp_bind]
  iapply (wp_call m d)
  isplitr [Hb Hh HO Hg]
  swap
  · isplitl [Hb]; · iexact Hb
    isplitl [Hh]; · iexact Hh
    isplitl [HO]; · iexact HO
    isplitr [Hg]; · iexact Hlev
    iexact Hg
  iintro ⟨Hb, Hh, HO⟩
  ihave Hst := Hback $$ HO
  ihave H := (give m d) $$ Hh
  icases H with ⟨Hgive, Hkept, Hrest⟩
  rw [wp_bind]
  iapply ((K (F := F)).wp_run (D (F := F)) 𝒱 (EH := EH) (P := P m (sc₁ m)) κ d 0) $$ [Hst Hgive Hb Hkept Hrest Hts]
  isplitr; · iexact Hctx
  isplitl [Hst]; · iexact Hst
  isplitl [Hgive]; · iexact Hgive
  iintro ⟨Hst, Hdn⟩
  ihave Hh := (take m d) $$ [Hdn Hkept Hrest]
  · isplitl [Hdn]; · iexact Hdn
    isplitl [Hkept] <;> iassumption
  rw [show (seq (layout (F := F)) : Prog _ PUnit) = seq (layout (F := F)) >>= pure from (bind_pure _).symm]
  iapply (StableHlo.wp_seq 𝒱 none Set.univ d arrays pure (layout (F := F)) layout_bufs layout_fresh (W3 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

/-! ## The launch and the end -/

/-- The launch's ghost state: the handshakes' rounds and the staging buffers' cells. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem deal : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m (sc₁ m)).x q thr) := by
  have hpair : (ownU (u₀ (F := F)) : sProp 𝕄) ⊢ iprop(BI.own (EH (initOf (K (F := F)).hsCells (K (F := F)).hsToks))
      ∗ BI.own (EP (initOf (Pipeline.cells (Pipeline.pin (pcfgs (F := F)) adm) cellOf_inj) (Pipeline.launchToks (Pipeline.pin (pcfgs (F := F)) adm) cellOf_inj)))) := by
    unfold u₀
    iintro Hu
    ihave H := (ownU_pair (initOf (K (F := F)).hsCells (K (F := F)).hsToks)
      ((initOf (Pipeline.cells (Pipeline.pin (pcfgs (F := F)) adm) cellOf_inj) (Pipeline.launchToks (Pipeline.pin (pcfgs (F := F)) adm) cellOf_inj), 1) : UP × Counters)) $$ Hu
    icases H with ⟨HH, Hr⟩
    isplitl [HH]; · iexact HH
    ihave H := (own_pair_emb (embR (nD := nD) (sig := sig) (Ix := HIx 1) (Val := Elt F) (Name := ℕ) (Lvl := ℕ) : Emb (UP × Counters) (MT nD τ sig (HIx 1) (Elt F) ℕ UU ℕ)) _ _) $$ Hr
    icases H with ⟨HP, -⟩
    iexact HP
  refine hpair.trans ?_
  iintro ⟨HH, HP⟩
  imod (Pipeline.fund_ghost (Pipeline.pin (pcfgs (F := F)) adm) EP cellOf_inj) $$ HP with ⟨Hc, Ht⟩
  imodintro
  isplitl [HH]; · iexact HH
  isplitl [Hc Ht]
  · unfold ghost
    rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P (F := F) m (sc₁ m)).x q thr) = (iprop(emp) : sProp 𝕄) from
    (bigSep_congr fun _ _ => bigSep_univ_of_subsingleton (0 : Fin 1)).trans (bigSep_emp_const _)]
  iempintro

/-- At the end device `d`'s memory reads the last valuation at every array. -/
def fq (d : Dev nD) (s' : Phys nD τ sig (Elt F)) : Prop := ∀ b ∈ arrays, s'.mem.mem (d, b) = W4 m d b

theorem hfin (d : Dev nD) (s' : Phys nD τ sig (Elt F)) : iprop(FIN m d ∗ SI s') ⊢ (⌜fq m d s'⌝ : sProp 𝕄) := by
  have one : ∀ b : {b : DevRef τ sig // b ∈ arrays}, iprop(FIN m d ∗ SI s') ⊢ (⌜s'.mem.mem (d, b.1) = W4 m d b.1⌝ : sProp 𝕄) := by
    intro ⟨b, hb⟩
    unfold FIN
    rw [StableHlo.held_sub_split (d : Thread nD τ) (Finset.singleton_subset_iff.mpr hb)]
    unfold held
    rw [bigSep_singleton]
    iintro ⟨⟨Hb, -⟩, HSI⟩
    ihave H := (SI_pointsTo_agree (st := s') (ℓ := (d, b)) (I := Finset.univ) (q := fullShare) (f := W4 m d b)) $$ [HSI Hb]
    · isplitl [HSI] <;> iassumption
    icases H with %h
    ipureintro; exact funext fun i => h i (Finset.mem_univ i)
  refine (forall_intro one).trans (pure_forall.2.trans (Laws.pure_mono fun h b hb => h ⟨b, hb⟩))

/-- What the run leaves: every array at the last valuation, every semaphore at zero. -/
def QC : PUnit × MemSt nD τ sig (Elt F) → Prop := fun r => (∀ d : Dev nD, ∀ b ∈ arrays, r.2.mem (d, b) = W4 m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (sc₁ m)) (A := ∅) facts v₀
    (fun q hq => match q with | 0 => nomatch hq)
    (fun q _ => match q with | 0 => tileObl m (sc₁ m) facts)
    (fun q _ => match q with | 0 => SparseCore.Cfg.VecSplit.of_plain (vecSplit m (sc₁ m)))
    m ρ main (fun d => ghost d) (FIN m) (u₀ (F := F)) (sep_elim_left.trans (deal m)) (hmain m ρ) (fq m) (hfin m) (QC m) (fun _ h hz => ⟨h, hz⟩)

end Cert.Proof.Router

end
-- ==== Proof.Frames.lean ====
/-
  What the run's last valuation says of the arguments and the four results, and the three frames.
-/
module

public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Proof.Router

open Cert.KernelIdeal Cert.KernelIdeal.Gen

open Idealize.ShloMosaic
open Idealize.ShloMosaic.TcCoe
open Idealize.ShloMosaic.ValueIdx
open Idealize.ShloMosaic.StableHlo (after)
open Idealize.SL.Sem

variable {F : FTy → Type} [FloatOps F] (m : (ℓ : Loc nD τ sig) → Buf (Elt F) ℓ)

/-! ## The last valuation, read -/

/-- What the SparseCores' call does not write is as the TensorCore's call left it. -/
theorem W3_of (d : Dev nD) (b : Ref sig .tc) (h0 : b ≠ main_v2_0) (h1 : b ≠ main_v2_1) (h2 : b ≠ main_v2_2) (h3 : b ≠ main_v2_3) :
    W3 m d (Proc.devRef .tc b) = W2 m d (Proc.devRef .tc b) := by
  unfold W3
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- The last operations write these arrays only. -/
theorem layout_keeps (V : Valuation τ sig (Elt F)) (b : Ref sig .tc)
    (h : b ∉ [main_v3, main_v4, main_v5, main_v6, main_v7, main_v8, main_v9, main_v10]) :
    after (layout (F := F)) V (Proc.devRef .tc b) = V (Proc.devRef .tc b) :=
  StableHlo.after_of_writes_sub _ V (StableHlo.forall_writes_sub_of_map rfl) h

/-- Both arguments are as launched. -/
theorem end_arg0 (d : Dev nD) : W4 m d (Proc.devRef .tc main_arg0) = m (d, Proc.devRef .tc main_arg0) := by
  unfold W4
  rw [layout_keeps _ _ (by decide), W3_of m d _ (by decide) (by decide) (by decide) (by decide), W2_ne m d _ (by decide) (by decide), W1_ne m d _ (by decide)]
theorem end_arg1 (d : Dev nD) : W4 m d (Proc.devRef .tc main_arg1) = m (d, Proc.devRef .tc main_arg1) := by
  unfold W4
  rw [layout_keeps _ _ (by decide), W3_of m d _ (by decide) (by decide) (by decide) (by decide), W2_ne m d _ (by decide) (by decide), W1_ne m d _ (by decide)]

/-- The scores, turned, -/
theorem end_scores (d : Dev nD) : W4 m d (Proc.devRef .tc main_v9) = turned (F := F) (scoresT (F := F) (xs m d) (ws m d)) := by
  have h : W3 m d (Proc.devRef .tc main_v1_1) = scoresT (F := F) (xs m d) (ws m d) := (W3_self m d).1
  rw [← h]
  unfold W4 layout
  after_results
/-- the logits, turned, -/
theorem end_logits (d : Dev nD) : W4 m d (Proc.devRef .tc main_v10) = turned (F := F) (logitsT (F := F) (xs m d) (ws m d)) := by
  have h : W3 m d (Proc.devRef .tc main_v1_0) = logitsT (F := F) (xs m d) (ws m d) :=
    (W3_of m d _ (by decide) (by decide) (by decide) (by decide)).trans (W2_logits m d)
  rw [← h]
  unfold W4 layout
  after_results
/-- the two best scores side by side, -/
theorem end_best (d : Dev nD) :
    W4 m d (Proc.devRef .tc main_v5) = sideBySide (F := F) (e := .f32) (column (F := F) (outM1 (F := F) (sc₁ m d))) (column (F := F) (outM2 (F := F) (sc₁ m d))) := by
  rw [← (W3_self m d).2.1, ← (W3_self m d).2.2.1]
  unfold W4 layout
  after_results
/-- and the experts they belong to. -/
theorem end_which (d : Dev nD) :
    W4 m d (Proc.devRef .tc main_v8) = sideBySide (F := F) (e := .i32) (column (F := F) (outI1 (F := F) (sc₁ m d))) (column (F := F) (outI2 (F := F) (sc₁ m d))) := by
  rw [← (W3_self m d).2.2.2.1, ← (W3_self m d).2.2.2.2]
  unfold W4 layout
  after_results

/-! ## The frames -/

/-- At any float values: the arguments end as launched and every semaphore counter at zero. -/
theorem kept [∀ e, Nonempty (Elt F e)] (ρ : Dev nD → PrngReg) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run Cert.KernelIdeal.defs _ _).mono
    (fun _ h => ⟨fun c => ⟨(h.1 c _ (mem_arrays main_arg0 rfl)).trans (end_arg0 m c), (h.1 c _ (mem_arrays main_arg1 rfl)).trans (end_arg1 m c)⟩, h.2⟩)
    (run_main m ρ)

/-- The kernel and its idealization have the same text: their body tables are one, -/
theorem kernels_same : Cert.Kernel.defs₀ (F := Bits) = Cert.KernelIdeal.defs₀ (F := Bits) := by
  funext p l a
  match p, l, a with
  | .tc, 0, (t, s) => rfl
  | .scVector c s, 1, _ => rfl
  | .tc, 1, _ => rfl
  | .scScalar _, 0, _ => rfl
  | .scScalar _, 1, _ => rfl
  | .scVector _ _, 0, _ => rfl
/-- and with them the programs'. -/
theorem defs_same : Cert.Kernel.defs (F := Bits) = Cert.KernelIdeal.defs (F := Bits) :=
  congrArg (fun t : Defs nD τ sig (Elt Bits) Λ₀ => (sc (F := Bits)).defs (Pipeline.defs pcfgs t)) kernels_same

theorem frame_kernel : Cert.quiescent_Kernel := fun m ρ _ => by
  have h := kept (F := Bits) m ρ
  rw [← defs_same] at h
  exact h

theorem frame_ideal : Cert.quiescent_KernelIdeal := fun m ρ _ => kept (F := Ideal) m ρ

/-- The reference is host operations only, and declares no semaphore. -/
theorem frame_reference : Cert.quiescent_ReferenceIdeal := fun m ρ _ =>
  (θ_run Cert.ReferenceIdeal.defs _ _).mono
    (fun r h => ⟨fun c => ⟨(h c).2.2.2.2.1, (h c).2.2.2.2.2⟩, sem_eq_zero_of_no_sems (by decide) r.2⟩)
    (Cert.ReferenceIdeal.Value.run (F := Ideal) m ρ)

end Cert.Proof.Router

end
-- ==== Proof.Softmax.lean ====
/-
  Logits and scores over the extended reals, element by element: both programs' arrays are the same sums of products, and
  the same shares of a token's exponentials.
-/
module

public import proofs.«01_k».proof.Proof.Body
public import proofs.«01_k».proof.Proof.Main
public import proofs.«01_k».proof.Proof.Gen.ReferenceIdeal
public import Idealize.ShloMosaic.Lib.Pointwise

@[expose] public section

noncomputable section

namespace Cert.Proof.Router

open Cert.KernelIdeal Cert.KernelIdeal.Gen
open Idealize.ShloMosaic

/-! ## The mathematics -/

/-- Token `n`'s logit for expert `e`: the product of the token's row with the expert's. -/
def logit (X : FVec Ideal S32768x1024 .f32) (w : FVec Ideal S8x1024 .f32) (n : Fin 32768) (e : Fin 8) : EReal :=
  ∑ k : Fin 1024, X (ix2 n k) * w (ix2 e k)

/-- The greatest of a token's eight logits. -/
def peak (l : Fin 8 → EReal) : EReal := Finset.univ.fold max (Ideal.ofBits .f32 0xFF800000#32) l

/-- Expert `e`'s share of the sum of the token's exponentials, the greatest logit taken off first. -/
def share (l : Fin 8 → EReal) (e : Fin 8) : EReal :=
  Ideal.div (Ideal.exp (l e - peak l)) (∑ i : Fin 8, Ideal.exp (l i - peak l))

/-- The word the maxima start from is −∞. -/
theorem word_bot : Ideal.ofBits .f32 0xFF800000#32 = ⊥ := by
  simp [Ideal.ofBits, Ideal.ieee]

/-- Of finite logits, each is finite below or at the greatest, so its exponential is positive and its share is not −∞. -/
theorem bot_lt_share (l : Fin 8 → EReal) (hb : ∀ e, l e ≠ ⊥) (ht : ∀ e, l e ≠ ⊤) (e : Fin 8) : ⊥ < share l e := by
  have hp : peak l ≠ ⊤ := by
    refine ne_of_lt ?_
    unfold peak
    rw [word_bot]
    exact (Finset.fold_max_lt _).mpr ⟨bot_lt_top, fun i _ => lt_top_iff_ne_top.mpr (ht i)⟩
  have nonneg : ∀ x : EReal, 0 ≤ Ideal.exp x := fun x => by
    induction x with
    | bot => exact le_refl _
    | top => exact le_top
    | coe r => exact EReal.coe_nonneg.mpr (Real.exp_pos r).le
  have pos : 0 < Ideal.exp (l e - peak l) := by
    have hx : l e - peak l ≠ ⊥ := by
      rw [sub_eq_add_neg]
      intro h
      rcases EReal.add_eq_bot_iff.mp h with h | h
      · exact hb e h
      · exact hp (EReal.neg_eq_bot_iff.mp h)
    revert hx
    generalize l e - peak l = x
    intro hx
    induction x with
    | bot => exact absurd rfl hx
    | top => exact EReal.zero_lt_top
    | coe r => exact EReal.coe_pos.mpr (Real.exp_pos r)
  unfold share Ideal.div
  split
  · exact bot_lt_top
  · exact lt_of_lt_of_le EReal.bot_lt_zero
      (mul_nonneg pos.le (EReal.inv_nonneg_of_nonneg (Finset.sum_nonneg fun i _ => nonneg _)))

/-- A sum of products of finite numbers is finite. -/
theorem logit_finite (X : FVec Ideal S32768x1024 .f32) (w : FVec Ideal S8x1024 .f32)
    (hX : ∀ i, X i ≠ ⊥ ∧ X i ≠ ⊤) (hw : ∀ i, w i ≠ ⊥ ∧ w i ≠ ⊤) (n : Fin 32768) (e : Fin 8) :
    logit X w n e ≠ ⊥ ∧ logit X w n e ≠ ⊤ := by
  have h : ∃ r : ℝ, logit X w n e = (r : EReal) := by
    refine Finset.sum_induction _ (fun x : EReal => ∃ r : ℝ, x = (r : EReal)) ?_ ⟨0, rfl⟩ fun k _ => ?_
    · rintro _ _ ⟨r, rfl⟩ ⟨q, rfl⟩
      exact ⟨r + q, (EReal.coe_add r q).symm⟩
    · refine ⟨(X (ix2 n k)).toReal * (w (ix2 e k)).toReal, ?_⟩
      rw [EReal.coe_mul, EReal.coe_toReal (hX _).2 (hX _).1, EReal.coe_toReal (hw _).2 (hw _).1]
  obtain ⟨r, h⟩ := h
  rw [h]
  exact ⟨EReal.coe_ne_bot _, EReal.coe_ne_top _⟩

/-! ## The kernel's arrays -/

/-- A block's product, at a token of the block and an expert. -/
theorem block_logit (t : FVec Ideal S4096x1024 .f32) (w : FVec Ideal S8x1024 .f32) (p : Fin 4096) (e : Fin 8) :
    k0_pay1 (F := Ideal) t w (ix2 p e) = ∑ k : Fin 1024, t (ix2 p k) * w (ix2 e k) := by
  pointwise [k0_pay1]

/-- A block's scores are the shares of its logits. -/
theorem block_share (t : FVec Ideal S4096x1024 .f32) (w : FVec Ideal S8x1024 .f32) (p : Fin 4096) (e : Fin 8) :
    k0_pay3 (F := Ideal) t w (ix2 e p) = share (fun i => ∑ k : Fin 1024, t (ix2 p k) * w (ix2 i k)) e := by
  unfold share peak
  pointwise [k0_pay3]
  simp only [block_logit]

/-- Token `n` stands in its block at its place. -/
theorem tokens_at (X : FVec Ideal S32768x1024 .f32) (n : Fin 32768) (k : Fin 1024) :
    tokens (F := Ideal) X (blockOf n) (ix2 (placeOf n) k) = X (ix2 n k) := by
  show X _ = X _
  refine congrArg X ?_
  funext a
  match a with
  | ⟨0, _⟩ => exact Fin.ext (Nat.div_add_mod n.val 4096)
  | ⟨1, _⟩ => rfl

/-- The logits the kernel returns. -/
theorem kernel_logits (X : FVec Ideal S32768x1024 .f32) (w : FVec Ideal S8x1024 .f32) (n : Fin 32768) (e : Fin 8) :
    turned (F := Ideal) (logitsT (F := Ideal) X w) (ix2 n e) = logit X w n e := by
  have h : turned (F := Ideal) (logitsT (F := Ideal) X w) (ix2 n e) = logitsT (F := Ideal) X w (ix2 e n) := by
    pointwise
  have h' : logitsT (F := Ideal) X w (ix2 e n) = k0_pay2 (F := Ideal) (tokens X (blockOf n)) w (ix2 e (placeOf n)) := rfl
  have h2 : k0_pay2 (F := Ideal) (tokens X (blockOf n)) w (ix2 e (placeOf n))
      = k0_pay1 (F := Ideal) (tokens X (blockOf n)) w (ix2 (placeOf n) e) := by
    pointwise [k0_pay2]
  rw [h, h', h2, block_logit]
  unfold logit
  simp only [tokens_at]

/-- The scores as the SparseCores read them, one row per expert, -/
theorem kernel_scoresT (X : FVec Ideal S32768x1024 .f32) (w : FVec Ideal S8x1024 .f32) (n : Fin 32768) (e : Fin 8) :
    scoresT (F := Ideal) X w (ix2 e n) = share (logit X w n) e := by
  have h' : scoresT (F := Ideal) X w (ix2 e n) = k0_pay3 (F := Ideal) (tokens X (blockOf n)) w (ix2 e (placeOf n)) := rfl
  rw [h', block_share]
  unfold logit
  simp only [tokens_at]

/-- and as the kernel returns them. -/
theorem kernel_scores (X : FVec Ideal S32768x1024 .f32) (w : FVec Ideal S8x1024 .f32) (n : Fin 32768) (e : Fin 8) :
    turned (F := Ideal) (scoresT (F := Ideal) X w) (ix2 n e) = share (logit X w n) e := by
  rw [← kernel_scoresT]
  pointwise

/-! ## The reference's arrays -/

open Cert.ReferenceIdeal.Gen in
/-- The reference's product of all tokens with the turned weights. -/
abbrev refLogits (X : FVec Ideal S32768x1024 .f32) (w : FVec Ideal S8x1024 .f32) : FVec Ideal Cert.ReferenceIdeal.S32768x8 .f32 :=
  Host.dotGeneral Cert.ReferenceIdeal.dot_S32768x1024_S1024x8_S32768x8_1_0_0_1_n_n none X
    (transpose Cert.ReferenceIdeal.S1024x8 [1, 0] w transposes_S8x1024_S1024x8_1_0)

/-- The greatest logit of each token, in every one of its columns. -/
abbrev refPeaks (L : FVec Ideal Cert.ReferenceIdeal.S32768x8 .f32) : FVec Ideal Cert.ReferenceIdeal.S32768x8 .f32 :=
  broadcastInDim Cert.ReferenceIdeal.S32768x8 ![0, 1] Cert.ReferenceIdeal.Gen.bcast_S32768x1_S32768x8_0_1
    (broadcastInDim Cert.ReferenceIdeal.S32768x1 ![0] Cert.ReferenceIdeal.Gen.bcast_S32768_S32768x1_0
      (maximumf (broadcastInDim Cert.ReferenceIdeal.S32768 ![] Cert.ReferenceIdeal.Gen.bcast_S_S32768 (constant Cert.ReferenceIdeal.S_ .f32 0xFF800000#32))
        (Host.reduce FloatOps.maximumf L (constant Cert.ReferenceIdeal.S_ .f32 0xFF800000#32) Cert.ReferenceIdeal.Gen.reducesTo_S32768x8_S32768_d1
          Cert.ReferenceIdeal.Gen.h_S_)))

/-- The reference's exponentials. -/
abbrev refExps (L : FVec Ideal Cert.ReferenceIdeal.S32768x8 .f32) : FVec Ideal Cert.ReferenceIdeal.S32768x8 .f32 :=
  Host.exp (subf L (refPeaks L))

/-- The reference's softmax. -/
abbrev refScores (L : FVec Ideal Cert.ReferenceIdeal.S32768x8 .f32) : FVec Ideal Cert.ReferenceIdeal.S32768x8 .f32 :=
  Host.divf (refExps L)
    (broadcastInDim Cert.ReferenceIdeal.S32768x8 ![0, 1] Cert.ReferenceIdeal.Gen.bcast_S32768x1_S32768x8_0_1
      (broadcastInDim Cert.ReferenceIdeal.S32768x1 ![0] Cert.ReferenceIdeal.Gen.bcast_S32768_S32768x1_0
        (Host.reduceAdd (refExps L) (constant Cert.ReferenceIdeal.S_ .f32 0x00000000#32) Cert.ReferenceIdeal.Gen.reducesTo_S32768x8_S32768_d1
          Cert.ReferenceIdeal.Gen.h_S_)))

/-- The reference's logits. -/
theorem reference_logits (X : FVec Ideal S32768x1024 .f32) (w : FVec Ideal S8x1024 .f32) (n : Fin 32768) (e : Fin 8) :
    refLogits X w (ix2 n e) = logit X w n e := by
  unfold logit
  pointwise

/-- The reference's scores are the shares of its logits: the maximum it takes once more with −∞ changes nothing. -/
theorem reference_scores (L : FVec Ideal Cert.ReferenceIdeal.S32768x8 .f32) (n : Fin 32768) (e : Fin 8) :
    refScores L (ix2 n e) = share (fun i => L (ix2 n i)) e := by
  have h : ∀ l : Fin 8 → EReal, max (Ideal.ofBits .f32 0xFF800000#32) (Finset.univ.fold max (Ideal.ofBits .f32 0xFF800000#32) l)
      = Finset.univ.fold max (Ideal.ofBits .f32 0xFF800000#32) l := fun l =>
    max_eq_right (by rw [word_bot]; exact bot_le)
  unfold share peak
  pointwise
  simp only [h]

/-! ## Together -/

/-- The kernel's logits are the reference's, -/
theorem logits_eq (X : FVec Ideal S32768x1024 .f32) (w : FVec Ideal S8x1024 .f32) :
    turned (F := Ideal) (logitsT (F := Ideal) X w) = refLogits X w := by
  funext j
  obtain ⟨n, e, rfl⟩ : ∃ (n : Fin 32768) (e : Fin 8), j = ix2 n e := ⟨j 0, j 1, eq_ix2 j⟩
  rw [kernel_logits, reference_logits]

/-- and so are its scores. -/
theorem scores_eq (X : FVec Ideal S32768x1024 .f32) (w : FVec Ideal S8x1024 .f32) :
    turned (F := Ideal) (scoresT (F := Ideal) X w) = refScores (refLogits X w) := by
  funext j
  obtain ⟨n, e, rfl⟩ : ∃ (n : Fin 32768) (e : Fin 8), j = ix2 n e := ⟨j 0, j 1, eq_ix2 j⟩
  rw [kernel_scores, reference_scores]
  simp only [reference_logits]

end Cert.Proof.Router

end
-- ==== Proof.TopTwo.lean ====
/-
  The scan for the two best of eight numbers against a stable descending sort: when no number is −∞, the scan's answers are
  the sort's first two entries, values and positions.
-/
module

public import proofs.«01_k».proof.Proof.Softmax
public import Idealize.ShloMosaic.Lib.SortPrefix

@[expose] public section

noncomputable section

namespace Cert.Proof.Router

open Cert.KernelIdeal Cert.KernelIdeal.Gen
open Idealize.ShloMosaic

/-! ## The scan -/

/-- After the experts below `n`: `a` leads, `b` is second, both are among them; of equal numbers the earlier expert is
    ahead, and nobody else is ahead of `b`. -/
structure Leads (c : Fin 8 → EReal) (n : ℕ) (a b : Fin 8) : Prop where
  ha : a.val < n
  hb : b.val < n
  ne : a ≠ b
  le : c b ≤ c a
  tie : c a = c b → a < b
  rest : ∀ p : Fin 8, p.val < n → p ≠ a → p ≠ b → c p ≤ c b ∧ (c p = c b → b < p)

/-- The scan's state when `a` leads and `b` is second. -/
def holding (c : Fin 8 → EReal) (a b : Fin 8) : Best Ideal := ⟨c a, c b, BitVec.ofNat 32 a.val, BitVec.ofNat 32 b.val⟩

/-- Comparing extended reals, as the scan does. -/
theorem choose_gt {α : Type} (x y : EReal) (p q : α) :
    Scalar.select (FloatOps.cmpf (F := Ideal) (φ := .f32) .ogt x y) p q = if y < x then p else q := by
  show Scalar.select (BitVec.ofBool (decide (y < x))) p q = _
  by_cases h : y < x
  · rw [if_pos h, decide_eq_true h]; rfl
  · rw [if_neg h, decide_eq_false h]; rfl

/-- The first two experts: the second number is above −∞, so it is held whether or not it takes the lead. -/
theorem first_two (c : Fin 8 → EReal) (h : ∀ e, ⊥ < c e) :
    ∃ a b, (Best.start (F := Ideal) (c 0)).step (c 1) 1#32 = holding c a b ∧ Leads c 2 a b := by
  have hm : (Best.start (F := Ideal) (c 0)).m2 = (⊥ : EReal) := word_bot
  unfold Best.step
  simp only [choose_gt]
  rw [hm, if_pos (h 1), if_pos (h 1)]
  show ∃ a b, (⟨if c 0 < c 1 then c 1 else c 0, if c 0 < c 1 then c 0 else c 1, if c 0 < c 1 then 1#32 else 0#32,
    if c 0 < c 1 then 0#32 else 1#32⟩ : Best Ideal) = _ ∧ _
  by_cases h01 : c 0 < c 1
  · refine ⟨1, 0, by simp only [if_pos h01]; rfl, by decide, by decide, by decide, h01.le, fun e => absurd e h01.ne', fun p hp h1 h0 => ?_⟩
    omega
  · refine ⟨0, 1, by simp only [if_neg h01]; rfl, by decide, by decide, by decide, not_lt.mp h01, fun _ => by decide, fun p hp h0 h1 => ?_⟩
    omega

/-- One more expert. -/
theorem next_one (c : Fin 8 → EReal) (k : Fin 8) (s : Best Ideal)
    (h : ∃ a b, s = holding c a b ∧ Leads c k.val a b) :
    ∃ a b, s.step (c k) (BitVec.ofNat 32 k.val) = holding c a b ∧ Leads c (k.val + 1) a b := by
  obtain ⟨a, b, rfl, L⟩ := h
  have hak : a < k := L.ha
  have hbk : b < k := L.hb
  unfold Best.step
  simp only [choose_gt]
  unfold holding
  dsimp only
  have old : ∀ p : Fin 8, p.val < k.val + 1 → p ≠ k → p.val < k.val := fun p hp hne => by
    have : p.val ≠ k.val := fun e => hne (Fin.ext e)
    omega
  by_cases ha : c a < c k
  · refine ⟨k, a, by simp only [if_pos ha], by omega, by have := L.ha; omega, (ne_of_lt hak).symm, ha.le, fun e => absurd e ha.ne', fun p hp hpk hpa => ?_⟩
    by_cases hpb : p = b
    · subst hpb; exact ⟨L.le, fun e => L.tie e.symm⟩
    · obtain ⟨h1, h2⟩ := L.rest p (old p hp hpk) hpa hpb
      exact ⟨h1.trans L.le, fun e => (L.tie (le_antisymm (e ▸ h1) L.le)).trans (h2 (le_antisymm h1 (e ▸ L.le)))⟩
  · by_cases hb : c b < c k
    · refine ⟨a, k, by simp only [if_neg ha, if_pos hb], by have := L.ha; omega, by omega, ne_of_lt hak, not_lt.mp ha, fun _ => hak, fun p hp hpa hpk => ?_⟩
      have hpb : c p ≤ c b := by
        by_cases e : p = b
        · subst e; exact le_refl _
        · exact (L.rest p (old p hp hpk) hpa e).1
      exact ⟨hpb.trans hb.le, fun e => absurd (e ▸ hpb) (not_le.mpr hb)⟩
    · refine ⟨a, b, by simp only [if_neg ha, if_neg hb], by have := L.ha; omega, by have := L.hb; omega, L.ne, L.le, L.tie, fun p hp hpa hpb => ?_⟩
      by_cases hpk : p = k
      · subst hpk; exact ⟨not_lt.mp hb, fun _ => hbk⟩
      · exact L.rest p (old p hp hpk) hpa hpb

/-- The whole scan. -/
theorem scan_leads (c : Fin 8 → EReal) (h : ∀ e, ⊥ < c e) : ∃ a b, best (F := Ideal) c = holding c a b ∧ Leads c 8 a b :=
  next_one c 7 _ (next_one c 6 _ (next_one c 5 _ (next_one c 4 _ (next_one c 3 _ (next_one c 2 _ (first_two c h))))))

/-! ## The sort -/

/-- Expert `p` is ahead of expert `q`: a greater number, or the same one and earlier. -/
def ahead (c : Fin 8 → EReal) (p q : Fin 8) : Bool := decide (c q < c p) || (decide (c p = c q) && decide (p < q))

/-- Of the experts in their own order, the stable sort by the numbers alone is the sort by `ahead`: an expert inserted
    stands before all that were inserted earlier, so `ahead` never has to look at the positions. -/
theorem stable_eq (c : Fin 8 → EReal) (l : List (Fin 8)) (hl : l.Pairwise (· < ·)) :
    stableSort (fun p q => decide (c q < c p)) l = stableSort (ahead c) l := by
  induction l with
  | nil => rfl
  | cons a l ih =>
    obtain ⟨ha, hl⟩ := List.pairwise_cons.mp hl
    unfold stableSort
    rw [ih hl]
    refine insertBefore_congr _ _ a _ fun b hb => ?_
    have hab : a < b := ha b ((perm_stableSort _ l).mem_iff.mp hb)
    unfold ahead
    rw [decide_eq_false (not_lt.mpr hab.le), Bool.and_false, Bool.or_false]

/-- `ahead` orders the experts strictly and totally. -/
theorem ahead_total (c : Fin 8 → EReal) : StrictTotalBefore (ahead c) :=
  StrictTotalBefore.of_key_then_position (fun x y : EReal => decide (y < x)) c (fun x => decide_eq_false (lt_irrefl x))
    (fun x y z h h' => decide_eq_true (lt_trans (of_decide_eq_true h') (of_decide_eq_true h)))
    (fun x y => by
      rcases lt_trichotomy x y with h | h | h
      · exact Or.inr (Or.inr (decide_eq_true h))
      · exact Or.inr (Or.inl h)
      · exact Or.inl (decide_eq_true h))

/-- The two that lead are where the stable descending sort's first two entries come from. -/
theorem sorted_first_two (c : Fin 8 → EReal) (a b : Fin 8) (L : Leads c 8 a b) (j : Fin 2) :
    sortedFrom (fun p q : Fin 8 => decide (c q < c p)) (j.castLE (by decide)) = (![a, b] : Fin 2 → Fin 8) j := by
  have hs : sortedFrom (fun p q : Fin 8 => decide (c q < c p)) (j.castLE (by decide)) = sortedFrom (ahead c) (j.castLE (by decide)) := by
    have e : sortPositions 8 (fun p q : Fin 8 => decide (c q < c p)) = sortPositions 8 (ahead c) :=
      stable_eq c _ (List.pairwise_lt_finRange 8)
    have same : ∀ (l l' : List (Fin 8)) (h : 8 = l.length) (h' : 8 = l'.length) (k : Fin 8), l = l' → l.get (k.cast h) = l'.get (k.cast h') := by
      rintro l _ h h' k rfl
      rfl
    exact same _ _ _ _ _ e
  rw [hs]
  have behind : ∀ p q : Fin 8, c p ≤ c q → (c p = c q → q < p) → ahead c p q = false := fun p q h h' => by
    unfold ahead
    rw [decide_eq_false (not_lt.mpr h), Bool.false_or]
    by_cases e : c p = c q
    · rw [decide_eq_false (not_lt.mpr (h' e).le), Bool.and_false]
    · rw [decide_eq_false e, Bool.false_and]
  refine (ahead_total c).sortedFrom_eq_of_prefix (by decide) ![a, b] ?_ ?_ ?_ j
  · intro i i' h
    match i, i' with
    | 0, 0 => rfl
    | 1, 1 => rfl
    | 0, 1 => exact absurd h L.ne
    | 1, 0 => exact absurd h.symm L.ne
  · intro i i' h
    match i, i' with
    | 0, 0 => exact absurd h (lt_irrefl _)
    | 1, 1 => exact absurd h (lt_irrefl _)
    | 0, 1 => exact behind b a L.le fun e => L.tie e.symm
    | 1, 0 => exact absurd h (by decide)
  · intro i p hp
    have h := L.rest p p.isLt (fun e => hp 0 e.symm) (fun e => hp 1 e.symm)
    match i with
    | 0 => exact behind p a (h.1.trans L.le) fun e =>
        (L.tie (le_antisymm (e ▸ h.1) L.le)).trans (h.2 (le_antisymm h.1 (e ▸ L.le)))
    | 1 => exact behind p b h.1 h.2

/-! ## The reference's top two -/

/-- The reference's top-two operation. -/
abbrev refTop (X : FVec Ideal Cert.ReferenceIdeal.S32768x8 .f32) :
    FVec Ideal Cert.ReferenceIdeal.S32768x2 .f32 × IVec Cert.ReferenceIdeal.S32768x2 32 :=
  Host.topK Cert.ReferenceIdeal.S32768x2 1 (FloatOps.cmpfTotal (F := Ideal) (φ := .f32) .gt) X Cert.ReferenceIdeal.Gen.sliceFits_S32768x8_S32768x2

/-- The axis of the experts. -/
abbrev experts : Fin Cert.ReferenceIdeal.S32768x8.rank := ⟨1, Nat.lt_succ_self 1⟩

/-- The sort behind it: every token's row, and with it the experts' numbers. -/
abbrev refSort (X : FVec Ideal Cert.ReferenceIdeal.S32768x8 .f32) :
    (Cert.ReferenceIdeal.S32768x8.Idx → EReal) × (Cert.ReferenceIdeal.S32768x8.Idx → BitVec 32) :=
  Host.sort2 Cert.ReferenceIdeal.S32768x8 1 (fun l r => FloatOps.cmpfTotal (F := Ideal) (φ := .f32) .gt l.1 r.1) X
    fun i => if h : 1 < Cert.ReferenceIdeal.S32768x8.rank then iotaInDim Cert.ReferenceIdeal.S32768x8 32 ⟨1, h⟩ i else 0#32

/-- Where the `j`-th of token `n`'s top two comes from. -/
abbrev source (X : FVec Ideal Cert.ReferenceIdeal.S32768x8 .f32) (n : Fin 32768) (j : Fin 2) : Fin 8 :=
  sortedFrom (fun p q : Fin 8 => decide (X (ix2 n q) < X (ix2 n p))) (j.castLE (by decide))

/-- Its two results at a token: an entry of the token's row and that entry's position. -/
theorem refTop_at (X : FVec Ideal Cert.ReferenceIdeal.S32768x8 .f32) (n : Fin 32768) (j : Fin 2) :
    (refTop X).1 (ix2 n j) = X (ix2 n (source X n j)) ∧ (refTop X).2 (ix2 n j) = BitVec.ofNat 32 (source X n j).val := by
  have along : ∀ (i : Cert.ReferenceIdeal.S32768x8.Idx) (k : Fin (Cert.ReferenceIdeal.S32768x8.size experts)), i.along experts k = (ix2 (i 0) k : Cert.ReferenceIdeal.S32768x8.Idx) := fun i k => by
    funext a
    match a with
    | ⟨0, _⟩ => rfl
    | ⟨1, _⟩ => rfl
  have bit : ∀ x y : EReal, (FloatOps.cmpfTotal (F := Ideal) (φ := .f32) .gt x y == 1#1) = decide (y < x) := fun x y => by
    show (BitVec.ofBool (decide (y < x)) == 1#1) = _
    cases decide (y < x) <;> rfl
  have cut : ∀ {α : Type} (v : Cert.ReferenceIdeal.S32768x8.Idx → α), extractStridedSlice Cert.ReferenceIdeal.S32768x2 (fun _ => 0) v
      Cert.ReferenceIdeal.Gen.sliceFits_S32768x8_S32768x2 (ix2 n j) = v (ix2 n (j.castLE (by decide))) := fun v => by
    refine congrArg v ?_
    funext a
    match a with
    | ⟨0, _⟩ => exact Fin.ext (Nat.zero_add _)
    | ⟨1, _⟩ => exact Fin.ext (Nat.zero_add _)
  have place : sortedFrom (fun p q : Fin (Cert.ReferenceIdeal.S32768x8.size experts) => FloatOps.cmpfTotal (F := Ideal) (φ := .f32) .gt
        (X ((ix2 n (j.castLE (by decide)) : Cert.ReferenceIdeal.S32768x8.Idx).along experts p))
        (X ((ix2 n (j.castLE (by decide)) : Cert.ReferenceIdeal.S32768x8.Idx).along experts q)) == 1#1) (j.castLE (by decide)) = source X n j := by
    simp only [along, bit]
    rfl
  constructor
  · refine (cut (refSort X).1).trans ?_
    unfold refSort Host.sort2
    rw [dif_pos (Nat.lt_succ_self 1)]
    refine (congrArg X (along _ _)).trans ?_
    exact congrArg (fun k : Fin 8 => X (ix2 n k)) place
  · refine (cut (refSort X).2).trans ?_
    unfold refSort Host.sort2
    rw [dif_pos (Nat.lt_succ_self 1)]
    exact congrArg (fun k : Fin 8 => BitVec.ofNat 32 k.val) place

/-- The scan's answers for a token are the reference's top two of it. -/
theorem scan_top (X : FVec Ideal Cert.ReferenceIdeal.S32768x8 .f32) (n : Fin 32768) (h : ∀ e, ⊥ < X (ix2 n e)) :
    (best (F := Ideal) fun e => X (ix2 n e)).m1 = (refTop X).1 (ix2 n 0) ∧ (best (F := Ideal) fun e => X (ix2 n e)).m2 = (refTop X).1 (ix2 n 1)
      ∧ (best (F := Ideal) fun e => X (ix2 n e)).i1 = (refTop X).2 (ix2 n 0) ∧ (best (F := Ideal) fun e => X (ix2 n e)).i2 = (refTop X).2 (ix2 n 1) := by
  obtain ⟨a, b, e, L⟩ := scan_leads (fun e => X (ix2 n e)) h
  have h0 : source X n 0 = a := sorted_first_two _ a b L 0
  have h1 : source X n 1 = b := sorted_first_two _ a b L 1
  rw [e, (refTop_at X n 0).1, (refTop_at X n 1).1, (refTop_at X n 0).2, (refTop_at X n 1).2, h0, h1]
  exact ⟨rfl, rfl, rfl, rfl⟩

end Cert.Proof.Router

end
-- ==== Proof.Algebraic.lean ====
/-
  The value claim: over the extended reals, from finite arguments, the kernel's four results are the reference's.
-/
module

public import proofs.«01_k».proof.Defs
public import proofs.«01_k».proof.Proof.Frames
public import proofs.«01_k».proof.Proof.TopTwo
public import proofs.«01_k».proof.Proof.Gen.ReferenceIdeal.Run
public import Idealize.ShloMosaic.Lib.ReduceAll

@[expose] public section

noncomputable section

namespace Cert.Proof.Router

open Cert.KernelIdeal Cert.KernelIdeal.Gen
open Idealize.ShloMosaic
open Idealize.ShloMosaic.TcCoe
open Idealize.SL.Sem

/-! ## The precondition -/

/-- The precondition's side conditions. -/
instance facts_finite : Cert.Pre_finite_inputs.Facts where
  bcast_S_S4x8192x1024 := by decide
  reducesTo_S4x8192x1024_S_d0_1_2 := by decide
  h_S_ := by decide
  bcast_S_S8x1024 := by decide
  reducesTo_S8x1024_S_d0_1 := by decide

/-- A number whose size is below the word of +∞ is finite. -/
theorem finite_of_below (x : EReal)
    (h : FloatOps.cmpf (F := Ideal) (φ := .f32) .olt (FloatOps.absf (F := Ideal) (φ := .f32) x) (FloatOps.ofBits (F := Ideal) .f32 0x7F800000#32) = 1#1) :
    x ≠ ⊥ ∧ x ≠ ⊤ := by
  have top : Ideal.ofBits .f32 0x7F800000#32 = ⊤ := by simp [Ideal.ofBits, Ideal.ieee]
  have hlt : max x (-x) < (⊤ : EReal) := by
    by_contra hn
    have h' : BitVec.ofBool (decide (max x (-x) < Ideal.ofBits .f32 0x7F800000#32)) = 1#1 := h
    rw [top, decide_eq_false hn] at h'
    exact absurd h' (by decide)
  constructor
  · rintro rfl
    exact absurd hlt (by simp)
  · rintro rfl
    exact absurd hlt (by simp)

/-- What the precondition says: every entry of both arguments is finite. -/
theorem finite_of_pre (x : FVec Ideal Cert.Pre_finite_inputs.S4x8192x1024 .f32) (w : FVec Ideal Cert.Pre_finite_inputs.S8x1024 .f32)
    (h : Cert.Pre_finite_inputs.fn (F := Ideal) x w = fun _ => 1#1) :
    (∀ i, x i ≠ ⊥ ∧ x i ≠ ⊤) ∧ ∀ i, w i ≠ ⊥ ∧ w i ≠ ⊤ := by
  have h0 := congrFun h (Shape.Idx.first (by decide))
  dsimp only [Cert.Pre_finite_inputs.fn] at h0
  obtain ⟨hx, hw⟩ := IntOp.andi_eq_one.1 h0
  haveI : Subsingleton (Cert.Pre_finite_inputs.S_).Idx := ⟨fun a b => funext fun k => k.elim0⟩
  exact ⟨fun i => finite_of_below _ (Host.reduce_andi_all _ _ _ _ _ hx i), fun i => finite_of_below _ (Host.reduce_andi_all _ _ _ _ _ hw i)⟩

/-! ## The two best, side by side -/

/-- Two columns side by side, at a token: the left one and the right one. -/
theorem beside_at {e : EltTy} (a b : (⟨S32768, e⟩ : BufTy).Contents (Elt Ideal)) (n : Fin 32768) :
    sideBySide (F := Ideal) (e := e) (column (F := Ideal) a) (column (F := Ideal) b) (ix2 n 0) = a (ix1 n)
      ∧ sideBySide (F := Ideal) (e := e) (column (F := Ideal) a) (column (F := Ideal) b) (ix2 n 1) = b (ix1 n) := by
  constructor
  · pointwise
  · pointwise

section
variable (X : FVec Ideal S32768x1024 .f32) (w : FVec Ideal S8x1024 .f32)
  (hX : ∀ i, X i ≠ ⊥ ∧ X i ≠ ⊤) (hw : ∀ i, w i ≠ ⊥ ∧ w i ≠ ⊤)
include hX hw

/-- The scan of a token's column of the kernel's scores answers with the reference's top two of the token. -/
theorem token_top (n : Fin 32768) :
    (best (F := Ideal) (col (scoresT (F := Ideal) X w) n)).m1 = (refTop (refScores (refLogits X w))).1 (ix2 n 0)
      ∧ (best (F := Ideal) (col (scoresT (F := Ideal) X w) n)).m2 = (refTop (refScores (refLogits X w))).1 (ix2 n 1)
      ∧ (best (F := Ideal) (col (scoresT (F := Ideal) X w) n)).i1 = (refTop (refScores (refLogits X w))).2 (ix2 n 0)
      ∧ (best (F := Ideal) (col (scoresT (F := Ideal) X w) n)).i2 = (refTop (refScores (refLogits X w))).2 (ix2 n 1) := by
  have hs : ∀ e, refScores (refLogits X w) (ix2 n e) = share (logit X w n) e := fun e => by
    rw [reference_scores]
    simp only [reference_logits]
  have hc : col (scoresT (F := Ideal) X w) n = fun e => refScores (refLogits X w) (ix2 n e) := by
    funext e
    exact (kernel_scoresT X w n e).trans (hs e).symm
  rw [hc]
  refine scan_top _ n fun e => ?_
  rw [hs]
  exact bot_lt_share _ (fun i => (logit_finite X w hX hw n i).1) (fun i => (logit_finite X w hX hw n i).2) e

/-- The kernel's two best scores are the reference's, -/
theorem values_eq :
    sideBySide (F := Ideal) (e := .f32) (column (F := Ideal) (outM1 (F := Ideal) (scoresT (F := Ideal) X w)))
      (column (F := Ideal) (outM2 (F := Ideal) (scoresT (F := Ideal) X w))) = (refTop (refScores (refLogits X w))).1 := by
  funext j
  obtain ⟨n, k, rfl⟩ : ∃ (n : Fin 32768) (k : Fin 2), j = ix2 n k := ⟨j 0, j 1, eq_ix2 j⟩
  match k with
  | 0 => exact (beside_at (e := .f32) _ _ n).1.trans (token_top X w hX hw n).1
  | 1 => exact (beside_at (e := .f32) _ _ n).2.trans (token_top X w hX hw n).2.1

/-- and so are the experts they belong to. -/
theorem indices_eq :
    sideBySide (F := Ideal) (e := .i32) (column (F := Ideal) (outI1 (F := Ideal) (scoresT (F := Ideal) X w)))
      (column (F := Ideal) (outI2 (F := Ideal) (scoresT (F := Ideal) X w))) = (refTop (refScores (refLogits X w))).2 := by
  funext j
  obtain ⟨n, k, rfl⟩ : ∃ (n : Fin 32768) (k : Fin 2), j = ix2 n k := ⟨j 0, j 1, eq_ix2 j⟩
  match k with
  | 0 => exact (beside_at (e := .i32) _ _ n).1.trans (token_top X w hX hw n).2.2.1
  | 1 => exact (beside_at (e := .i32) _ _ n).2.trans (token_top X w hX hw n).2.2.2
end

/-! ## The claim -/

/-- The flattened tokens, of the launch's memory. -/
theorem xs_eq (m : (ℓ : Loc nD τ sig) → Buf (Elt Ideal) ℓ) (d : Dev nD) :
    xs m d = shapeCast S32768x1024 (m ((d.tc : Thread nD τ).loc main_arg0)) shapeCasts_S4x8192x1024_S32768x1024 := by
  unfold xs W1
  rw [StableHlo.reshape_result]
  rfl

/-- The weights, of the launch's memory. -/
theorem ws_eq (m : (ℓ : Loc nD τ sig) → Buf (Elt Ideal) ℓ) (d : Dev nD) : ws m d = m ((d.tc : Thread nD τ).loc main_arg1) :=
  W1_ne m d main_arg1 (by decide)

/-- Over the extended reals, from memories that hold the same finite arguments, the kernel and the reference end with the
    same scores, logits, two best scores and their experts, and leave the arguments alone. -/
theorem algebraic : Cert.algebraic_KernelIdeal_ReferenceIdeal_pre_finite_inputs := by
  intro m g m' g' hpre hargs
  have hfin : ∀ c : Dev nD, (∀ i, xs m c i ≠ ⊥ ∧ xs m c i ≠ ⊤) ∧ ∀ i, ws m c i ≠ ⊥ ∧ ws m c i ≠ ⊤ := fun c => by
    obtain ⟨h0, h1⟩ := finite_of_pre _ _ (hpre c)
    refine ⟨fun i => ?_, fun i => ?_⟩
    · rw [xs_eq]; exact h0 _
    · rw [ws_eq]; exact h1 _
  refine ⟨fun c => refScores (refLogits (xs m c) (ws m c)), fun c => refLogits (xs m c) (ws m c),
    fun c => (refTop (refScores (refLogits (xs m c) (ws m c)))).1, fun c => (refTop (refScores (refLogits (xs m c) (ws m c)))).2, ?_, ?_⟩
  · refine (θ_run Cert.KernelIdeal.defs _ _).mono (fun r h c => ?_) (run_main (F := Ideal) m g)
    refine ⟨?_, ?_, ?_, ?_, ?_, ?_⟩
    · exact (h.1 c _ (mem_arrays main_v9 rfl)).trans ((end_scores m c).trans (scores_eq (xs m c) (ws m c)))
    · exact (h.1 c _ (mem_arrays main_v10 rfl)).trans ((end_logits m c).trans (logits_eq (xs m c) (ws m c)))
    · exact (h.1 c _ (mem_arrays main_v5 rfl)).trans ((end_best m c).trans (values_eq (xs m c) (ws m c) (hfin c).1 (hfin c).2))
    · exact (h.1 c _ (mem_arrays main_v8 rfl)).trans ((end_which m c).trans (indices_eq (xs m c) (ws m c) (hfin c).1 (hfin c).2))
    · exact (h.1 c _ (mem_arrays main_arg0 rfl)).trans (end_arg0 m c)
    · exact (h.1 c _ (mem_arrays main_arg1 rfl)).trans (end_arg1 m c)
  · refine (θ_run Cert.ReferenceIdeal.defs _ _).mono (fun r h c => ?_) (Cert.ReferenceIdeal.Value.run (F := Ideal) m' g')
    obtain ⟨h0, h1, h2, h3, h4, h5⟩ := h c
    rw [(hargs c).1, (hargs c).2] at h0 h1 h2 h3
    dsimp only
    rw [xs_eq, ws_eq]
    exact ⟨h0, h1, h2, h3, h4, h5⟩

end Cert.Proof.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames (the two that state the precondition hold without it), the idealization, and the value claim. -/
theorem claim : Cert.Claim := ⟨Cert.Kernel.Gen.facts, Cert.KernelIdeal.Gen.facts, Cert.ReferenceIdeal.Gen.facts, Router.facts_finite,
  Router.frame_kernel, Router.frame_ideal, fun m ρ _ => Router.frame_ideal m ρ trivial,
  Router.frame_reference, fun m ρ _ => Router.frame_reference m ρ trivial, trivial, Router.algebraic⟩

end Cert.Proof

end
